-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mask_keeps_the_memory [hPre_mask_keeps_the_memory : Cert.Pre_mask_keeps_the_memory.Facts] (m : (ℓ : Loc Cert.KernelIdeal.nD Cert.KernelIdeal.τ Cert.KernelIdeal.sig) → Buf (Elt Ideal) ℓ) : Prop :=
  ∀ c : Dev Cert.KernelIdeal.nD,
    (Cert.Pre_mask_keeps_the_memory.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mask_keeps_the_memory [hPre_mask_keeps_the_memory : Cert.Pre_mask_keeps_the_memory.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mask_keeps_the_memory.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_mask_keeps_the_memory [hKernelIdeal : Cert.KernelIdeal.Facts] [hPre_mask_keeps_the_memory : Cert.Pre_mask_keeps_the_memory.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mask_keeps_the_memory m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_mask_keeps_the_memory [hReferenceIdeal : Cert.ReferenceIdeal.Facts] [hPre_mask_keeps_the_memory : Cert.Pre_mask_keeps_the_memory.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mask_keeps_the_memory m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_mask_keeps_the_memory [hKernelIdeal : Cert.KernelIdeal.Facts] [hReferenceIdeal : Cert.ReferenceIdeal.Facts] [hPre_mask_keeps_the_memory : Cert.Pre_mask_keeps_the_memory.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mask_keeps_the_memory m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_v178) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_mask_keeps_the_memory : Cert.Pre_mask_keeps_the_memory.Facts),
    quiescent_Kernel (hKernel := hKernel)
    ∧ quiescent_KernelIdeal (hKernelIdeal := hKernelIdeal)
    ∧ quiescent_KernelIdeal_pre_mask_keeps_the_memory (hKernelIdeal := hKernelIdeal) (hPre_mask_keeps_the_memory := hPre_mask_keeps_the_memory)
    ∧ quiescent_ReferenceIdeal (hReferenceIdeal := hReferenceIdeal)
    ∧ quiescent_ReferenceIdeal_pre_mask_keeps_the_memory (hReferenceIdeal := hReferenceIdeal) (hPre_mask_keeps_the_memory := hPre_mask_keeps_the_memory)
    ∧ preserves_Kernel_KernelIdeal
    ∧ algebraic_KernelIdeal_ReferenceIdeal_pre_mask_keeps_the_memory (hKernelIdeal := hKernelIdeal) (hReferenceIdeal := hReferenceIdeal) (hPre_mask_keeps_the_memory := hPre_mask_keeps_the_memory)
-- ==== Pre_mask_keeps_the_memory.lean ====
abbrev S8x2048x8x256 : Shape := ⟨4, ![8, 2048, 8, 256]⟩
abbrev S8x2048x8 : Shape := ⟨3, ![8, 2048, 8]⟩
abbrev S_ : Shape := ⟨0, ![]⟩

class Facts : Prop where
  bcast_S_S8x2048x8 : S_.BroadcastsInDim S8x2048x8 (![] : Fin 0 → Fin S8x2048x8.rank)

variable [Facts]

def fn {F : FTy → Type} [FloatOps F] (main_arg0 : FVec F S8x2048x8x256 .f32) (main_arg1 : FVec F S8x2048x8 .f32) : IVec S8x2048x8 1 :=
  let main_cst : FVec F S_ .f32 := constant S_ .f32 0x00000000#32
  let main_v0 : FVec F S8x2048x8 .f32 := broadcastInDim S8x2048x8 ![] bcast_S_S8x2048x8 main_cst
  let main_v1 : IVec S8x2048x8 1 := cmpf .oge main_arg1 main_v0
  let main_cst_0 : FVec F S_ .f32 := constant S_ .f32 0x40000000#32
  let main_v2 : FVec F S8x2048x8 .f32 := broadcastInDim S8x2048x8 ![] bcast_S_S8x2048x8 main_cst_0
  let main_v3 : IVec S8x2048x8 1 := cmpf .ole main_arg1 main_v2
  let main_v4 : IVec S8x2048x8 1 := andi main_v1 main_v3
  main_v4
-- ==== Kernel.lean ====
abbrev S8x2048x8x256 : Shape := ⟨4, ![8, 2048, 8, 256]⟩
abbrev S8x2048x8 : Shape := ⟨3, ![8, 2048, 8]⟩
abbrev S4x128x8x256 : Shape := ⟨4, ![4, 128, 8, 256]⟩
abbrev S4x128x8 : Shape := ⟨3, ![4, 128, 8]⟩
abbrev S4x136x8x256 : Shape := ⟨4, ![4, 136, 8, 256]⟩
abbrev S4x136x8x1 : Shape := ⟨4, ![4, 136, 8, 1]⟩
abbrev S4x128x8x1 : Shape := ⟨4, ![4, 128, 8, 1]⟩
abbrev S4x64x8x256 : Shape := ⟨4, ![4, 64, 8, 256]⟩
abbrev S4x8x256 : Shape := ⟨3, ![4, 8, 256]⟩
abbrev S4x8x8x256 : Shape := ⟨4, ![4, 8, 8, 256]⟩
abbrev S4x8x8x1 : Shape := ⟨4, ![4, 8, 8, 1]⟩
abbrev S1x128x1x1 : Shape := ⟨4, ![1, 128, 1, 1]⟩
abbrev S1x11x8x256 : Shape := ⟨4, ![1, 11, 8, 256]⟩
abbrev S11x8x256 : Shape := ⟨3, ![11, 8, 256]⟩
abbrev S1x4x8x1 : Shape := ⟨4, ![1, 4, 8, 1]⟩
abbrev S4x8x1 : Shape := ⟨3, ![4, 8, 1]⟩
abbrev S1x4x8x256 : Shape := ⟨4, ![1, 4, 8, 256]⟩
abbrev S4x64x2x8x1 : Shape := ⟨5, ![4, 64, 2, 8, 1]⟩
abbrev S4x64x1x8x1 : Shape := ⟨5, ![4, 64, 1, 8, 1]⟩
abbrev S4x64x8x1 : Shape := ⟨4, ![4, 64, 8, 1]⟩
abbrev S4x64x2x8x256 : Shape := ⟨5, ![4, 64, 2, 8, 256]⟩
abbrev S4x64x1x8x256 : Shape := ⟨5, ![4, 64, 1, 8, 256]⟩
abbrev S4x1x8x1 : Shape := ⟨4, ![4, 1, 8, 1]⟩
abbrev S4x1x8x256 : Shape := ⟨4, ![4, 1, 8, 256]⟩
abbrev S8x1x8x256 : Shape := ⟨4, ![8, 1, 8, 256]⟩
abbrev S8x8x256 : Shape := ⟨3, ![8, 8, 256]⟩

abbrev nBuf : Space → Nat
  | .hbm => 5
  | .vmem => 11
  | .smem => 0
  | _ => 0

abbrev bufTy : (tb : Table) → Fin (tcTables nBuf tb) → BufTy
  | .hbm, ⟨0, _⟩ => ⟨S8x2048x8x256, .f32⟩
  | .hbm, ⟨1, _⟩ => ⟨S8x2048x8, .f32⟩
  | .hbm, ⟨2, _⟩ => ⟨S8x2048x8x256, .f32⟩
  | .hbm, ⟨3, _⟩ => ⟨S8x1x8x256, .f32⟩
  | .hbm, ⟨4, _⟩ => ⟨S8x8x256, .f32⟩
  | .local _ .vmem, ⟨0, _⟩ => ⟨S4x128x8x256, .f32⟩
  | .local _ .vmem, ⟨1, _⟩ => ⟨S4x128x8x256, .f32⟩
  | .local _ .vmem, ⟨2, _⟩ => ⟨S4x128x8, .f32⟩
  | .local _ .vmem, ⟨3, _⟩ => ⟨S4x128x8, .f32⟩
  | .local _ .vmem, ⟨4, _⟩ => ⟨S4x128x8x256, .f32⟩
  | .local _ .vmem, ⟨5, _⟩ => ⟨S4x128x8x256, .f32⟩
  | .local _ .vmem, ⟨6, _⟩ => ⟨S4x136x8x256, .f32⟩
  | .local _ .vmem, ⟨7, _⟩ => ⟨S4x136x8x1, .f32⟩
  | .local _ .vmem, ⟨8, _⟩ => ⟨S4x128x8x1, .f32⟩
  | .local _ .vmem, ⟨9, _⟩ => ⟨S4x64x8x256, .f32⟩
  | .local _ .vmem, ⟨10, _⟩ => ⟨S4x8x256, .f32⟩
  | _, _ => ⟨S8x2048x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond3 (i : grid0.Coords) : BitVec 1 :=
  let arg1 : BitVec 32 := BitVec.ofNat 32 (i 1).val
  let c0_i32_20 : BitVec 32 := 0#32
  let v18 : BitVec 1 := Scalar.cmpi .sgt arg1 c0_i32_20
  let v19 : BitVec 32 := Scalar.extui v18
  let c0_i32_21 : BitVec 32 := 0#32
  let v20 : BitVec 1 := Scalar.cmpi .ne v19 c0_i32_21
  v20

@[reducible] def k0_t1_loop : Scf.Loop 32 :=
  let c0_i32_70 : BitVec 32 := 0#32
  let c32_i32 : BitVec 32 := 32#32
  let v94 : BitVec 32 := Scalar.addi c0_i32_70 c32_i32
  let c1_i32_71 : BitVec 32 := 1#32
  ⟨c0_i32_70, v94, c1_i32_71⟩
def k0_off1 (k0_t1 : Fin k0_t1_loop.trips) : Fin 4 → Nat :=
  let c0_74 : Index := 0#32
  let c0_i32_70 : BitVec 32 := 0#32
  let c1_i32_71 : BitVec 32 := 1#32
  let arg10 : BitVec 32 := Scf.iv c0_i32_70 c1_i32_71 k0_t1
  let c4_i32 : BitVec 32 := 4#32
  let v95 : BitVec 32 := Scalar.muli arg10 c4_i32
  let c1_i32_73 : BitVec 32 := 1#32
  let v96 : BitVec 32 := Scalar.addi v95 c1_i32_73
  let v97 : Index := Scalar.indexCast v96
  let c0_75 : Index := 0#32
  let c0_76 : Index := 0#32
  ![0, v97.toNat, 0, 0]
def k0_off2 (k0_t1 : Fin k0_t1_loop.trips) : Fin 4 → Nat :=
  let c0_80 : Index := 0#32
  let c0_i32_70 : BitVec 32 := 0#32
  let c1_i32_71 : BitVec 32 := 1#32
  let arg10 : BitVec 32 := Scf.iv c0_i32_70 c1_i32_71 k0_t1
  let c4_i32 : BitVec 32 := 4#32
  let v95 : BitVec 32 := Scalar.muli arg10 c4_i32
  let v121 : Index := Scalar.indexCast v95
  let c0_81 : Index := 0#32
  let c0_82 : Index := 0#32
  ![0, v121.toNat, 0, 0]
def k0_off3 (k0_t1 : Fin k0_t1_loop.trips) : Fin 4 → Nat :=
  let c0_83 : Index := 0#32
  let c0_i32_70 : BitVec 32 := 0#32
  let c1_i32_71 : BitVec 32 := 1#32
  let arg10 : BitVec 32 := Scf.iv c0_i32_70 c1_i32_71 k0_t1
  let c4_i32 : BitVec 32 := 4#32
  let v95 : BitVec 32 := Scalar.muli arg10 c4_i32
  let v126 : Index := Scalar.indexCast v95
  let c0_84 : Index := 0#32
  let c0_85 : Index := 0#32
  ![0, v126.toNat, 0, 0]
def k0_off4 (k0_t1 : Fin k0_t1_loop.trips) : Fin 4 → Nat :=
  let c1 : Index := 1#32
  let c0_i32_70 : BitVec 32 := 0#32
  let c1_i32_71 : BitVec 32 := 1#32
  let arg10 : BitVec 32 := Scf.iv c0_i32_70 c1_i32_71 k0_t1
  let c4_i32 : BitVec 32 := 4#32
  let v95 : BitVec 32 := Scalar.muli arg10 c4_i32
  let c1_i32_86 : BitVec 32 := 1#32
  let v130 : BitVec 32 := Scalar.addi v95 c1_i32_86
  let v131 : Index := Scalar.indexCast v130
  let c0_87 : Index := 0#32
  let c0_88 : Index := 0#32
  ![1, v131.toNat, 0, 0]
def k0_off5 (k0_t1 : Fin k0_t1_loop.trips) : Fin 4 → Nat :=
  let c1_92 : Index := 1#32
  let c0_i32_70 : BitVec 32 := 0#32
  let c1_i32_71 : BitVec 32 := 1#32
  let arg10 : BitVec 32 := Scf.iv c0_i32_70 c1_i32_71 k0_t1
  let c4_i32 : BitVec 32 := 4#32
  let v95 : BitVec 32 := Scalar.muli arg10 c4_i32
  let v155 : Index := Scalar.indexCast v95
  let c0_93 : Index := 0#32
  let c0_94 : Index := 0#32
  ![1, v155.toNat, 0, 0]
def k0_off6 (k0_t1 : Fin k0_t1_loop.trips) : Fin 4 → Nat :=
  let c1_95 : Index := 1#32
  let c0_i32_70 : BitVec 32 := 0#32
  let c1_i32_71 : BitVec 32 := 1#32
  let arg10 : BitVec 32 := Scf.iv c0_i32_70 c1_i32_71 k0_t1
  let c4_i32 : BitVec 32 := 4#32
  let v95 : BitVec 32 := Scalar.muli arg10 c4_i32
  let v160 : Index := Scalar.indexCast v95
  let c0_96 : Index := 0#32
  let c0_97 : Index := 0#32
  ![1, v160.toNat, 0, 0]
def k0_off7 (k0_t1 : Fin k0_t1_loop.trips) : Fin 4 → Nat :=
  let c2 : Index := 2#32
  let c0_i32_70 : BitVec 32 := 0#32
  let c1_i32_71 : BitVec 32 := 1#32
  let arg10 : BitVec 32 := Scf.iv c0_i32_70 c1_i32_71 k0_t1
  let c4_i32 : BitVec 32 := 4#32
  let v95 : BitVec 32 := Scalar.muli arg10 c4_i32
  let c1_i32_98 : BitVec 32 := 1#32
  let v164 : BitVec 32 := Scalar.addi v95 c1_i32_98
  let v165 : Index := Scalar.indexCast v164
  let c0_99 : Index := 0#32
  let c0_100 : Index := 0#32
  ![2, v165.toNat, 0, 0]
def k0_off8 (k0_t1 : Fin k0_t1_loop.trips) : Fin 4 → Nat :=
  let c2_104 : Index := 2#32
  let c0_i32_70 : BitVec 32 := 0#32
  let c1_i32_71 : BitVec 32 := 1#32
  let arg10 : BitVec 32 := Scf.iv c0_i32_70 c1_i32_71 k0_t1
  let c4_i32 : BitVec 32 := 4#32
  let v95 : BitVec 32 := Scalar.muli arg10 c4_i32
  let v189 : Index := Scalar.indexCast v95
  let c0_105 : Index := 0#32
  let c0_106 : Index := 0#32
  ![2, v189.toNat, 0, 0]
def k0_off9 (k0_t1 : Fin k0_t1_loop.trips) : Fin 4 → Nat :=
  let c2_107 : Index := 2#32
  let c0_i32_70 : BitVec 32 := 0#32
  let c1_i32_71 : BitVec 32 := 1#32
  let arg10 : BitVec 32 := Scf.iv c0_i32_70 c1_i32_71 k0_t1
  let c4_i32 : BitVec 32 := 4#32
  let v95 : BitVec 32 := Scalar.muli arg10 c4_i32
  let v194 : Index := Scalar.indexCast v95
  let c0_108 : Index := 0#32
  let c0_109 : Index := 0#32
  ![2, v194.toNat, 0, 0]
def k0_off10 (k0_t1 : Fin k0_t1_loop.trips) : Fin 4 → Nat :=
  let c3 : Index := 3#32
  let c0_i32_70 : BitVec 32 := 0#32
  let c1_i32_71 : BitVec 32 := 1#32
  let arg10 : BitVec 32 := Scf.iv c0_i32_70 c1_i32_71 k0_t1
  let c4_i32 : BitVec 32 := 4#32
  let v95 : BitVec 32 := Scalar.muli arg10 c4_i32
  let c1_i32_110 : BitVec 32 := 1#32
  let v198 : BitVec 32 := Scalar.addi v95 c1_i32_110
  let v199 : Index := Scalar.indexCast v198
  let c0_111 : Index := 0#32
  let c0_112 : Index := 0#32
  ![3, v199.toNat, 0, 0]
def k0_off11 (k0_t1 : Fin k0_t1_loop.trips) : Fin 4 → Nat :=
  let c3_116 : Index := 3#32
  let c0_i32_70 : BitVec 32 := 0#32
  let c1_i32_71 : BitVec 32 := 1#32
  let arg10 : BitVec 32 := Scf.iv c0_i32_70 c1_i32_71 k0_t1
  let c4_i32 : BitVec 32 := 4#32
  let v95 : BitVec 32 := Scalar.muli arg10 c4_i32
  let v223 : Index := Scalar.indexCast v95
  let c0_117 : Index := 0#32
  let c0_118 : Index := 0#32
  ![3, v223.toNat, 0, 0]
def k0_off12 (k0_t1 : Fin k0_t1_loop.trips) : Fin 4 → Nat :=
  let c3_119 : Index := 3#32
  let c0_i32_70 : BitVec 32 := 0#32
  let c1_i32_71 : BitVec 32 := 1#32
  let arg10 : BitVec 32 := Scf.iv c0_i32_70 c1_i32_71 k0_t1
  let c4_i32 : BitVec 32 := 4#32
  let v95 : BitVec 32 := Scalar.muli arg10 c4_i32
  let v228 : Index := Scalar.indexCast v95
  let c0_120 : Index := 0#32
  let c0_121 : Index := 0#32
  ![3, v228.toNat, 0, 0]
@[reducible] def k0_t2_loop : Scf.Loop 32 :=
  let c0_i32_41 : BitVec 32 := 0#32
  let c64_i32 : BitVec 32 := 64#32
  let v52 : BitVec 32 := Scalar.addi c0_i32_41 c64_i32
  let c1_i32 : BitVec 32 := 1#32
  ⟨c0_i32_41, v52, c1_i32⟩
def k0_off13 (k0_t2 : Fin k0_t2_loop.trips) : Fin 4 → Nat :=
  let c0_62 : Index := 0#32
  let c64_i32_61 : BitVec 32 := 64#32
  let c0_i32_41 : BitVec 32 := 0#32
  let c1_i32 : BitVec 32 := 1#32
  let arg10 : BitVec 32 := Scf.iv c0_i32_41 c1_i32 k0_t2
  let v65 : BitVec 32 := Scalar.addi c64_i32_61 arg10
  let v66 : Index := Scalar.indexCast v65
  let c0_63 : Index := 0#32
  let c0_64 : Index := 0#32
  ![0, v66.toNat, 0, 0]
def k0_off14 (k0_t2 : Fin k0_t2_loop.trips) : Fin 4 → Nat :=
  let c0_65 : Index := 0#32
  let c2_i32 : BitVec 32 := 2#32
  let c0_i32_41 : BitVec 32 := 0#32
  let c1_i32 : BitVec 32 := 1#32
  let arg10 : BitVec 32 := Scf.iv c0_i32_41 c1_i32 k0_t2
  let v71 : BitVec 32 := Scalar.muli c2_i32 arg10
  let v72 : Index := Scalar.indexCast v71
  let c0_66 : Index := 0#32
  let c0_67 : Index := 0#32
  ![0, v72.toNat, 0, 0]
def k0_off15 (k0_t2 : Fin k0_t2_loop.trips) : Fin 4 → Nat :=
  let c0_72 : Index := 0#32
  let c0_i32_41 : BitVec 32 := 0#32
  let c1_i32 : BitVec 32 := 1#32
  let arg10 : BitVec 32 := Scf.iv c0_i32_41 c1_i32 k0_t2
  let v81 : Index := Scalar.indexCast arg10
  let c0_73 : Index := 0#32
  let c0_74 : Index := 0#32
  ![0, v81.toNat, 0, 0]
def k0_off16 (k0_t2 : Fin k0_t2_loop.trips) : Fin 4 → Nat :=
  let c0_75 : Index := 0#32
  let c0_i32_41 : BitVec 32 := 0#32
  let c1_i32 : BitVec 32 := 1#32
  let arg10 : BitVec 32 := Scf.iv c0_i32_41 c1_i32 k0_t2
  let v86 : Index := Scalar.indexCast arg10
  let c0_76 : Index := 0#32
  let c0_77 : Index := 0#32
  ![0, v86.toNat, 0, 0]
def k0_off17 (k0_t2 : Fin k0_t2_loop.trips) : Fin 4 → Nat :=
  let c0_80 : Index := 0#32
  let c2_i32_78 : BitVec 32 := 2#32
  let c0_i32_41 : BitVec 32 := 0#32
  let c1_i32 : BitVec 32 := 1#32
  let arg10 : BitVec 32 := Scf.iv c0_i32_41 c1_i32 k0_t2
  let v90 : BitVec 32 := Scalar.muli c2_i32_78 arg10
  let c1_i32_79 : BitVec 32 := 1#32
  let v91 : BitVec 32 := Scalar.addi v90 c1_i32_79
  let v92 : Index := Scalar.indexCast v91
  let c0_81 : Index := 0#32
  let c0_82 : Index := 0#32
  ![0, v92.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S4x128x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x128x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S8x2048x8x256 : Shape := ⟨4, ![8, 2048, 8, 256]⟩
abbrev S8x2048x8 : Shape := ⟨3, ![8, 2048, 8]⟩
abbrev S2048x8 : Shape := ⟨2, ![2048, 8]⟩
abbrev S_ : Shape := ⟨0, ![]⟩
abbrev S2048 : Shape := ⟨1, ![2048]⟩
abbrev S2048x1 : Shape := ⟨2, ![2048, 1]⟩
abbrev S1x2048x1 : Shape := ⟨3, ![1, 2048, 1]⟩
abbrev S8x2048x8x1 : Shape := ⟨4, ![8, 2048, 8, 1]⟩
abbrev S8x2049x8x256 : Shape := ⟨4, ![8, 2049, 8, 256]⟩
abbrev S8x2049x8 : Shape := ⟨3, ![8, 2049, 8]⟩
abbrev S8x2050x8x256 : Shape := ⟨4, ![8, 2050, 8, 256]⟩
abbrev S8x2050x8 : Shape := ⟨3, ![8, 2050, 8]⟩
abbrev S8x2051x8x256 : Shape := ⟨4, ![8, 2051, 8, 256]⟩
abbrev S8x2051x8 : Shape := ⟨3, ![8, 2051, 8]⟩
abbrev S8x2052x8x256 : Shape := ⟨4, ![8, 2052, 8, 256]⟩
abbrev S8x2052x8 : Shape := ⟨3, ![8, 2052, 8]⟩
abbrev S8x2053x8x256 : Shape := ⟨4, ![8, 2053, 8, 256]⟩
abbrev S8x2053x8 : Shape := ⟨3, ![8, 2053, 8]⟩
abbrev S8x2054x8x256 : Shape := ⟨4, ![8, 2054, 8, 256]⟩
abbrev S8x2054x8 : Shape := ⟨3, ![8, 2054, 8]⟩
abbrev S8x2055x8x256 : Shape := ⟨4, ![8, 2055, 8, 256]⟩
abbrev S8x2055x8 : Shape := ⟨3, ![8, 2055, 8]⟩
abbrev S8x8x256 : Shape := ⟨3, ![8, 8, 256]⟩
abbrev S2048x8x8 : Shape := ⟨3, ![2048, 8, 8]⟩
abbrev S2048x8x8x256 : Shape := ⟨4, ![2048, 8, 8, 256]⟩
abbrev S1x8x8 : Shape := ⟨3, ![1, 8, 8]⟩
abbrev S8x8 : Shape := ⟨2, ![8, 8]⟩
abbrev S1x8x8x256 : Shape := ⟨4, ![1, 8, 8, 256]⟩
abbrev S8x8x1 : Shape := ⟨3, ![8, 8, 1]⟩
abbrev S8x1x8x256 : Shape := ⟨4, ![8, 1, 8, 256]⟩

abbrev nBuf : Space → Nat
  | .hbm => 257
  | .vmem => 0
  | .smem => 0
  | _ => 0

abbrev hbmTy0_0 (i : Nat) : BufTy := match i % 128 with
  | 0 => ⟨S8x2048x8x256, .f32⟩
  | 1 => ⟨S8x2048x8, .f32⟩
  | 2 => ⟨S2048x8, .i32⟩
  | 3 => ⟨S2048x8, .i32⟩
  | 4 => ⟨S_, .i32⟩
  | 5 => ⟨S2048x8, .i32⟩
  | 6 => ⟨S2048x8, .i32⟩
  | 7 => ⟨S_, .i32⟩
  | 8 => ⟨S2048x8, .i32⟩
  | 9 => ⟨S2048x8, .i32⟩
  | 10 => ⟨S2048x8, .i1⟩
  | 11 => ⟨S_, .i32⟩
  | 12 => ⟨S2048x8, .i32⟩
  | 13 => ⟨S2048x8, .i32⟩
  | 14 => ⟨S_, .i32⟩
  | 15 => ⟨S2048x8, .i32⟩
  | 16 => ⟨S2048x8, .i32⟩
  | 17 => ⟨S2048x8, .i32⟩
  | 18 => ⟨S_, .i32⟩
  | 19 => ⟨S_, .i32⟩
  | 20 => ⟨S2048x8, .i32⟩
  | 21 => ⟨S2048x8, .i32⟩
  | 22 => ⟨S2048x8, .f32⟩
  | 23 => ⟨S2048x8, .f32⟩
  | 24 => ⟨S_, .f32⟩
  | 25 => ⟨S2048, .f32⟩
  | 26 => ⟨S_, .f32⟩
  | 27 => ⟨S2048, .f32⟩
  | 28 => ⟨S2048, .f32⟩
  | 29 => ⟨S2048x1, .f32⟩
  | 30 => ⟨S2048x8, .f32⟩
  | 31 => ⟨S2048x8, .f32⟩
  | 32 => ⟨S_, .f32⟩
  | 33 => ⟨S8x2048x8x256, .f32⟩
  | 34 => ⟨S_, .f32⟩
  | 35 => ⟨S8x2048x8, .f32⟩
  | 36 => ⟨S_, .i32⟩
  | 37 => ⟨S_, .f32⟩
  | 38 => ⟨S8x2048x8x256, .f32⟩
  | 39 => ⟨S_, .i32⟩
  | 40 => ⟨S_, .f32⟩
  | 41 => ⟨S8x2048x8, .f32⟩
  | 42 => ⟨S2048x1, .f32⟩
  | 43 => ⟨S2048, .f32⟩
  | 44 => ⟨S1x2048x1, .f32⟩
  | 45 => ⟨S8x2048x8, .f32⟩
  | 46 => ⟨S8x2048x8, .f32⟩
  | 47 => ⟨S8x2048x8x1, .f32⟩
  | 48 => ⟨S8x2048x8x256, .f32⟩
  | 49 => ⟨S8x2048x8x256, .f32⟩
  | 50 => ⟨S8x2048x8x256, .f32⟩
  | 51 => ⟨S8x2048x8, .f32⟩
  | 52 => ⟨S8x2048x8, .f32⟩
  | 53 => ⟨S8x2048x8, .f32⟩
  | 54 => ⟨S8x2048x8, .f32⟩
  | 55 => ⟨S_, .i32⟩
  | 56 => ⟨S_, .f32⟩
  | 57 => ⟨S8x2049x8x256, .f32⟩
  | 58 => ⟨S8x2048x8x256, .f32⟩
  | 59 => ⟨S_, .i32⟩
  | 60 => ⟨S_, .f32⟩
  | 61 => ⟨S8x2049x8, .f32⟩
  | 62 => ⟨S8x2048x8, .f32⟩
  | 63 => ⟨S2048x1, .f32⟩
  | 64 => ⟨S2048, .f32⟩
  | 65 => ⟨S1x2048x1, .f32⟩
  | 66 => ⟨S8x2048x8, .f32⟩
  | 67 => ⟨S8x2048x8, .f32⟩
  | 68 => ⟨S8x2048x8x1, .f32⟩
  | 69 => ⟨S8x2048x8x256, .f32⟩
  | 70 => ⟨S8x2048x8x256, .f32⟩
  | 71 => ⟨S8x2048x8x256, .f32⟩
  | 72 => ⟨S8x2048x8, .f32⟩
  | 73 => ⟨S8x2048x8, .f32⟩
  | 74 => ⟨S8x2048x8, .f32⟩
  | 75 => ⟨S8x2048x8, .f32⟩
  | 76 => ⟨S_, .i32⟩
  | 77 => ⟨S_, .f32⟩
  | 78 => ⟨S8x2050x8x256, .f32⟩
  | 79 => ⟨S8x2048x8x256, .f32⟩
  | 80 => ⟨S_, .i32⟩
  | 81 => ⟨S_, .f32⟩
  | 82 => ⟨S8x2050x8, .f32⟩
  | 83 => ⟨S8x2048x8, .f32⟩
  | 84 => ⟨S2048x1, .f32⟩
  | 85 => ⟨S2048, .f32⟩
  | 86 => ⟨S1x2048x1, .f32⟩
  | 87 => ⟨S8x2048x8, .f32⟩
  | 88 => ⟨S8x2048x8, .f32⟩
  | 89 => ⟨S8x2048x8x1, .f32⟩
  | 90 => ⟨S8x2048x8x256, .f32⟩
  | 91 => ⟨S8x2048x8x256, .f32⟩
  | 92 => ⟨S8x2048x8x256, .f32⟩
  | 93 => ⟨S8x2048x8, .f32⟩
  | 94 => ⟨S8x2048x8, .f32⟩
  | 95 => ⟨S8x2048x8, .f32⟩
  | 96 => ⟨S8x2048x8, .f32⟩
  | 97 => ⟨S_, .i32⟩
  | 98 => ⟨S_, .f32⟩
  | 99 => ⟨S8x2051x8x256, .f32⟩
  | 100 => ⟨S8x2048x8x256, .f32⟩
  | 101 => ⟨S_, .i32⟩
  | 102 => ⟨S_, .f32⟩
  | 103 => ⟨S8x2051x8, .f32⟩
  | 104 => ⟨S8x2048x8, .f32⟩
  | 105 => ⟨S2048x1, .f32⟩
  | 106 => ⟨S2048, .f32⟩
  | 107 => ⟨S1x2048x1, .f32⟩
  | 108 => ⟨S8x2048x8, .f32⟩
  | 109 => ⟨S8x2048x8, .f32⟩
  | 110 => ⟨S8x2048x8x1, .f32⟩
  | 111 => ⟨S8x2048x8x256, .f32⟩
  | 112 => ⟨S8x2048x8x256, .f32⟩
  | 113 => ⟨S8x2048x8x256, .f32⟩
  | 114 => ⟨S8x2048x8, .f32⟩
  | 115 => ⟨S8x2048x8, .f32⟩
  | 116 => ⟨S8x2048x8, .f32⟩
  | 117 => ⟨S8x2048x8, .f32⟩
  | 118 => ⟨S_, .i32⟩
  | 119 => ⟨S_, .f32⟩
  | 120 => ⟨S8x2052x8x256, .f32⟩
  | 121 => ⟨S8x2048x8x256, .f32⟩
  | 122 => ⟨S_, .i32⟩
  | 123 => ⟨S_, .f32⟩
  | 124 => ⟨S8x2052x8, .f32⟩
  | 125 => ⟨S8x2048x8, .f32⟩
  | 126 => ⟨S2048x1, .f32⟩
  | 127 => ⟨S2048, .f32⟩
  | _ => ⟨S8x2048x8x256, .f32⟩

abbrev hbmTy0_1 (i : Nat) : BufTy := match i % 128 with
  | 0 => ⟨S1x2048x1, .f32⟩
  | 1 => ⟨S8x2048x8, .f32⟩
  | 2 => ⟨S8x2048x8, .f32⟩
  | 3 => ⟨S8x2048x8x1, .f32⟩
  | 4 => ⟨S8x2048x8x256, .f32⟩
  | 5 => ⟨S8x2048x8x256, .f32⟩
  | 6 => ⟨S8x2048x8x256, .f32⟩
  | 7 => ⟨S8x2048x8, .f32⟩
  | 8 => ⟨S8x2048x8, .f32⟩
  | 9 => ⟨S8x2048x8, .f32⟩
  | 10 => ⟨S8x2048x8, .f32⟩
  | 11 => ⟨S_, .i32⟩
  | 12 => ⟨S_, .f32⟩
  | 13 => ⟨S8x2053x8x256, .f32⟩
  | 14 => ⟨S8x2048x8x256, .f32⟩
  | 15 => ⟨S_, .i32⟩
  | 16 => ⟨S_, .f32⟩
  | 17 => ⟨S8x2053x8, .f32⟩
  | 18 => ⟨S8x2048x8, .f32⟩
  | 19 => ⟨S2048x1, .f32⟩
  | 20 => ⟨S2048, .f32⟩
  | 21 => ⟨S1x2048x1, .f32⟩
  | 22 => ⟨S8x2048x8, .f32⟩
  | 23 => ⟨S8x2048x8, .f32⟩
  | 24 => ⟨S8x2048x8x1, .f32⟩
  | 25 => ⟨S8x2048x8x256, .f32⟩
  | 26 => ⟨S8x2048x8x256, .f32⟩
  | 27 => ⟨S8x2048x8x256, .f32⟩
  | 28 => ⟨S8x2048x8, .f32⟩
  | 29 => ⟨S8x2048x8, .f32⟩
  | 30 => ⟨S8x2048x8, .f32⟩
  | 31 => ⟨S8x2048x8, .f32⟩
  | 32 => ⟨S_, .i32⟩
  | 33 => ⟨S_, .f32⟩
  | 34 => ⟨S8x2054x8x256, .f32⟩
  | 35 => ⟨S8x2048x8x256, .f32⟩
  | 36 => ⟨S_, .i32⟩
  | 37 => ⟨S_, .f32⟩
  | 38 => ⟨S8x2054x8, .f32⟩
  | 39 => ⟨S8x2048x8, .f32⟩
  | 40 => ⟨S2048x1, .f32⟩
  | 41 => ⟨S2048, .f32⟩
  | 42 => ⟨S1x2048x1, .f32⟩
  | 43 => ⟨S8x2048x8, .f32⟩
  | 44 => ⟨S8x2048x8, .f32⟩
  | 45 => ⟨S8x2048x8x1, .f32⟩
  | 46 => ⟨S8x2048x8x256, .f32⟩
  | 47 => ⟨S8x2048x8x256, .f32⟩
  | 48 => ⟨S8x2048x8x256, .f32⟩
  | 49 => ⟨S8x2048x8, .f32⟩
  | 50 => ⟨S8x2048x8, .f32⟩
  | 51 => ⟨S8x2048x8, .f32⟩
  | 52 => ⟨S8x2048x8, .f32⟩
  | 53 => ⟨S_, .i32⟩
  | 54 => ⟨S_, .f32⟩
  | 55 => ⟨S8x2055x8x256, .f32⟩
  | 56 => ⟨S8x2048x8x256, .f32⟩
  | 57 => ⟨S_, .i32⟩
  | 58 => ⟨S_, .f32⟩
  | 59 => ⟨S8x2055x8, .f32⟩
  | 60 => ⟨S8x2048x8, .f32⟩
  | 61 => ⟨S2048x1, .f32⟩
  | 62 => ⟨S2048, .f32⟩
  | 63 => ⟨S1x2048x1, .f32⟩
  | 64 => ⟨S8x2048x8, .f32⟩
  | 65 => ⟨S8x2048x8, .f32⟩
  | 66 => ⟨S8x2048x8x1, .f32⟩
  | 67 => ⟨S8x2048x8x256, .f32⟩
  | 68 => ⟨S8x2048x8x256, .f32⟩
  | 69 => ⟨S8x2048x8x256, .f32⟩
  | 70 => ⟨S8x2048x8, .f32⟩
  | 71 => ⟨S8x2048x8, .f32⟩
  | 72 => ⟨S8x2048x8, .f32⟩
  | 73 => ⟨S8x2048x8, .f32⟩
  | 74 => ⟨S_, .f32⟩
  | 75 => ⟨S8x2048x8, .f32⟩
  | 76 => ⟨S8x2048x8, .f32⟩
  | 77 => ⟨S8x2048x8x1, .f32⟩
  | 78 => ⟨S8x2048x8x256, .f32⟩
  | 79 => ⟨S8x2048x8x256, .f32⟩
  | 80 => ⟨S_, .f32⟩
  | 81 => ⟨S8x2048x8, .f32⟩
  | 82 => ⟨S8x2048x8, .f32⟩
  | 83 => ⟨S_, .f32⟩
  | 84 => ⟨S8x2048x8, .f32⟩
  | 85 => ⟨S8x2048x8, .f32⟩
  | 86 => ⟨S_, .f32⟩
  | 87 => ⟨S8x2048x8, .f32⟩
  | 88 => ⟨S8x2048x8, .f32⟩
  | 89 => ⟨S8x2048x8x1, .f32⟩
  | 90 => ⟨S8x2048x8x256, .f32⟩
  | 91 => ⟨S8x2048x8x256, .f32⟩
  | 92 => ⟨S_, .f32⟩
  | 93 => ⟨S8x8x256, .f32⟩
  | 94 => ⟨S2048x8x8, .f32⟩
  | 95 => ⟨S2048x8x8x256, .f32⟩
  | 96 => ⟨S_, .f32⟩
  | 97 => ⟨S2048x8x8x256, .f32⟩
  | 98 => ⟨S_, .i32⟩
  | 99 => ⟨S2048x8x8, .f32⟩
  | 100 => ⟨S2048x8x8x256, .f32⟩
  | 101 => ⟨S_, .i32⟩
  | 102 => ⟨S8x8x256, .f32⟩
  | 103 => ⟨S2048x8x8x256, .f32⟩
  | 104 => ⟨S_, .i32⟩
  | 105 => ⟨S_, .i1⟩
  | 106 => ⟨S_, .i32⟩
  | 107 => ⟨S_, .i32⟩
  | 108 => ⟨S1x8x8, .f32⟩
  | 109 => ⟨S8x8, .f32⟩
  | 110 => ⟨S_, .i32⟩
  | 111 => ⟨S_, .i32⟩
  | 112 => ⟨S_, .i32⟩
  | 113 => ⟨S1x8x8x256, .f32⟩
  | 114 => ⟨S8x8x256, .f32⟩
  | 115 => ⟨S8x8x1, .f32⟩
  | 116 => ⟨S8x8x256, .f32⟩
  | 117 => ⟨S8x8x256, .f32⟩
  | 118 => ⟨S8x8x256, .f32⟩
  | 119 => ⟨S1x8x8x256, .f32⟩
  | 120 => ⟨S_, .i32⟩
  | 121 => ⟨S_, .i32⟩
  | 122 => ⟨S_, .i32⟩
  | 123 => ⟨S2048x8x8x256, .f32⟩
  | 124 => ⟨S_, .i32⟩
  | 125 => ⟨S_, .i32⟩
  | 126 => ⟨S8x2048x8x256, .f32⟩
  | 127 => ⟨S8x1x8x256, .f32⟩
  | _ => ⟨S8x2048x8x256, .f32⟩

abbrev hbmTy0_2 (i : Nat) : BufTy := match i % 128 with
  | 0 => ⟨S8x8x256, .f32⟩
  | _ => ⟨S8x2048x8x256, .f32⟩

abbrev hbmTy (i : Nat) : BufTy := match i / 128 with
  | 0 => hbmTy0_0 i
  | 1 => hbmTy0_1 i
  | 2 => hbmTy0_2 i
  | _ => ⟨S8x2048x8x256, .f32⟩

abbrev bufTy : (tb : Table) → Fin (tcTables nBuf tb) → BufTy
  | .hbm, ⟨i, _⟩ => hbmTy i
  | _, _ => ⟨S8x2048x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_3 : Ref sig .tc := ⟨.hbm, 18, rfl⟩
abbrev main_call0_v0 : Ref sig .tc := ⟨.hbm, 19, rfl⟩
abbrev main_call0_v1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_c_7 : Ref sig .tc := ⟨.hbm, 36, rfl⟩
abbrev main_call1_v0 : Ref sig .tc := ⟨.hbm, 37, rfl⟩
abbrev main_v23 : Ref sig .tc := ⟨.hbm, 38, rfl⟩
abbrev main_c_8 : Ref sig .tc := ⟨.hbm, 39, rfl⟩
abbrev main_call2_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_9 : Ref sig .tc := ⟨.hbm, 55, rfl⟩
abbrev main_call3_v0 : Ref sig .tc := ⟨.hbm, 56, rfl⟩
abbrev main_v38 : Ref sig .tc := ⟨.hbm, 57, rfl⟩
abbrev main_v39 : Ref sig .tc := ⟨.hbm, 58, rfl⟩
abbrev main_c_10 : Ref sig .tc := ⟨.hbm, 59, rfl⟩
abbrev main_call4_v0 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_11 : Ref sig .tc := ⟨.hbm, 76, rfl⟩
abbrev main_call5_v0 : Ref sig .tc := ⟨.hbm, 77, rfl⟩
abbrev main_v55 : Ref sig .tc := ⟨.hbm, 78, rfl⟩
abbrev main_v56 : Ref sig .tc := ⟨.hbm, 79, rfl⟩
abbrev main_c_12 : Ref sig .tc := ⟨.hbm, 80, rfl⟩
abbrev main_call6_v0 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_13 : Ref sig .tc := ⟨.hbm, 97, rfl⟩
abbrev main_call7_v0 : Ref sig .tc := ⟨.hbm, 98, rfl⟩
abbrev main_v72 : Ref sig .tc := ⟨.hbm, 99, rfl⟩
abbrev main_v73 : Ref sig .tc := ⟨.hbm, 100, rfl⟩
abbrev main_c_14 : Ref sig .tc := ⟨.hbm, 101, rfl⟩
abbrev main_call8_v0 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_c_15 : Ref sig .tc := ⟨.hbm, 118, rfl⟩
abbrev main_call9_v0 : Ref sig .tc := ⟨.hbm, 119, rfl⟩
abbrev main_v89 : Ref sig .tc := ⟨.hbm, 120, rfl⟩
abbrev main_v90 : Ref sig .tc := ⟨.hbm, 121, rfl⟩
abbrev main_c_16 : Ref sig .tc := ⟨.hbm, 122, rfl⟩
abbrev main_call10_v0 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_c_17 : Ref sig .tc := ⟨.hbm, 139, rfl⟩
abbrev main_call11_v0 : Ref sig .tc := ⟨.hbm, 140, rfl⟩
abbrev main_v106 : Ref sig .tc := ⟨.hbm, 141, rfl⟩
abbrev main_v107 : Ref sig .tc := ⟨.hbm, 142, rfl⟩
abbrev main_c_18 : Ref sig .tc := ⟨.hbm, 143, rfl⟩
abbrev main_call12_v0 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_c_19 : Ref sig .tc := ⟨.hbm, 160, rfl⟩
abbrev main_call13_v0 : Ref sig .tc := ⟨.hbm, 161, rfl⟩
abbrev main_v123 : Ref sig .tc := ⟨.hbm, 162, rfl⟩
abbrev main_v124 : Ref sig .tc := ⟨.hbm, 163, rfl⟩
abbrev main_c_20 : Ref sig .tc := ⟨.hbm, 164, rfl⟩
abbrev main_call14_v0 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_c_21 : Ref sig .tc := ⟨.hbm, 181, rfl⟩
abbrev main_call15_v0 : Ref sig .tc := ⟨.hbm, 182, rfl⟩
abbrev main_v140 : Ref sig .tc := ⟨.hbm, 183, rfl⟩
abbrev main_v141 : Ref sig .tc := ⟨.hbm, 184, rfl⟩
abbrev main_c_22 : Ref sig .tc := ⟨.hbm, 185, rfl⟩
abbrev main_call16_v0 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_cst_23 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_cst_24 : Ref sig .tc := ⟨.hbm, 208, rfl⟩
abbrev main_v162 : Ref sig .tc := ⟨.hbm, 209, rfl⟩
abbrev main_v163 : Ref sig .tc := ⟨.hbm, 210, rfl⟩
abbrev main_cst_25 : Ref sig .tc := ⟨.hbm, 211, rfl⟩
abbrev main_v164 : Ref sig .tc := ⟨.hbm, 212, rfl⟩
abbrev main_v165 : Ref sig .tc := ⟨.hbm, 213, rfl⟩
abbrev main_cst_26 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_cst_27 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_cst_28 : Ref sig .tc := ⟨.hbm, 224, rfl⟩
abbrev main_v174 : Ref sig .tc := ⟨.hbm, 225, rfl⟩
abbrev main_c_29 : Ref sig .tc := ⟨.hbm, 226, rfl⟩
abbrev main_v175_0 : Ref sig .tc := ⟨.hbm, 227, rfl⟩
abbrev main_v175_1 : Ref sig .tc := ⟨.hbm, 228, rfl⟩
abbrev main_v175_2 : Ref sig .tc := ⟨.hbm, 229, rfl⟩
abbrev main_v175_3 : Ref sig .tc := ⟨.hbm, 230, rfl⟩
abbrev main_v175_4 : Ref sig .tc := ⟨.hbm, 231, rfl⟩
abbrev main_while0c_c_34 : Ref sig .tc := ⟨.hbm, 232, rfl⟩
abbrev main_while0c_v179 : Ref sig .tc := ⟨.hbm, 233, rfl⟩
abbrev main_while0b_call17_c : Ref sig .tc := ⟨.hbm, 234, rfl⟩
abbrev main_while0b_call17_c_0 : Ref sig .tc := ⟨.hbm, 235, rfl⟩
abbrev main_while0b_call17_v0 : Ref sig .tc := ⟨.hbm, 236, rfl⟩
abbrev main_while0b_v179 : Ref sig .tc := ⟨.hbm, 237, rfl⟩
abbrev main_while0b_call18_c : Ref sig .tc := ⟨.hbm, 238, rfl⟩
abbrev main_while0b_call18_c_0 : Ref sig .tc := ⟨.hbm, 239, rfl⟩
abbrev main_while0b_call18_c_1 : Ref sig .tc := ⟨.hbm, 240, rfl⟩
abbrev main_while0b_call18_v0 : Ref sig .tc := ⟨.hbm, 241, rfl⟩
abbrev main_while0b_v180 : Ref sig .tc := ⟨.hbm, 242, rfl⟩
abbrev main_while0b_v181 : Ref sig .tc := ⟨.hbm, 243, rfl⟩
abbrev main_while0b_v182 : Ref sig .tc := ⟨.hbm, 244, rfl⟩
abbrev main_while0b_v183 : Ref sig .tc := ⟨.hbm, 245, rfl⟩
abbrev main_while0b_v184 : Ref sig .tc := ⟨.hbm, 246, rfl⟩
abbrev main_while0b_call19_v0 : Ref sig .tc := ⟨.hbm, 247, rfl⟩
abbrev main_while0b_call19_c : Ref sig .tc := ⟨.hbm, 248, rfl⟩
abbrev main_while0b_call19_c_0 : Ref sig .tc := ⟨.hbm, 249, rfl⟩
abbrev main_while0b_call19_c_1 : Ref sig .tc := ⟨.hbm, 250, rfl⟩
abbrev main_while0b_v185 : Ref sig .tc := ⟨.hbm, 251, rfl⟩
abbrev main_while0b_c_34 : Ref sig .tc := ⟨.hbm, 252, rfl⟩
abbrev main_while0b_v186 : Ref sig .tc := ⟨.hbm, 253, rfl⟩
abbrev main_v176 : Ref sig .tc := ⟨.hbm, 254, rfl⟩
abbrev main_v177 : Ref sig .tc := ⟨.hbm, 255, rfl⟩
abbrev main_v178 : Ref sig .tc := ⟨.hbm, 256, rfl⟩

abbrev nD : Nat := 1
abbrev τ : Topo := Topo.v7x

variable {F : FTy → Type} [FloatOps F]

abbrev main_while0_count : Scf.Loop 32 := ⟨0#32, 2048#32, 1#32⟩
-- ==== Proof.Same.lean ====
module

public import proofs.«01_k».proof.Defs
public import proofs.«01_k».proof.Proof.Gen.Kernel
public import proofs.«01_k».proof.Proof.Gen.KernelIdeal

@[expose] public section

/-! The kernel and its idealisation are printed from one source and no operation was rewritten, so at every
number type they are one program: what is proved of one is proved of the other. -/

namespace Cert.Proof
open Idealize.ShloMosaic
variable {F : FTy → Type} [FloatOps F]

set_option maxRecDepth 65536 in
/-- The two host programs are one. -/
theorem same_main : Cert.Kernel.main (F := F) = Cert.KernelIdeal.main (F := F) := rfl

set_option maxRecDepth 65536 in
/-- The two kernel bodies are one. -/
theorem same_body : Cert.Kernel.cc0_stat_mem (F := F) = Cert.KernelIdeal.cc0_stat_mem (F := F) := rfl

set_option maxRecDepth 65536 in
/-- The two tables of bodies are one. -/
theorem same_defs0 : Cert.Kernel.defs₀ (F := F) = Cert.KernelIdeal.defs₀ (F := F) := by
  unfold Cert.Kernel.defs₀ Cert.KernelIdeal.defs₀
  refine congrArg Defs.onTc (funext fun l => funext fun x => ?_)
  match l, x with
  | ⟨0, _⟩, (t, s) => rfl

set_option maxRecDepth 65536 in
/-- The two tables of procedures are one. -/
theorem same_defs : Cert.Kernel.defs (F := F) = Cert.KernelIdeal.defs (F := F) := by
  unfold Cert.Kernel.defs Cert.KernelIdeal.defs
  exact congrArg (fun d => Pipeline.defs Cert.Kernel.pcfgs d) same_defs0

end Cert.Proof
-- ==== Proof.Own.lean ====
module

public import proofs.«01_k».proof.Proof.Gen.KernelIdeal.Skeleton
public import Idealize.ShloMosaic.Lib.WritesUnit
public import Idealize.ShloMosaic.Lib.Tactic
public import Idealize.ShloMosaic.Lib.Pipeline.Kit

@[expose] public section

/-! The body's own arithmetic, named: what its stores hold as functions of what it reads. -/

set_option maxRecDepth 16384

noncomputable section

namespace Cert.Stat

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The part of `X` inside the box of sizes `size` at offsets `off`. -/
def window {Val : EltTy → Type} {s : Shape} {e : EltTy} (X : s.Idx → Val e) (off size : Fin s.rank → ℕ)
    (inb : ∀ a, off a + size a ≤ s.size a) : (⟨s.rank, size⟩ : Shape).Idx → Val e :=
  fun x => X fun a => ⟨off a + (x a).val, Nat.lt_of_lt_of_le (Nat.add_lt_add_left (x a).isLt _) (inb a)⟩

/-- `X` with the box of sizes `size` at offsets `off` replaced by `w`. -/
def patch {Val : EltTy → Type} {s : Shape} {e : EltTy} (X : s.Idx → Val e) (off size : Fin s.rank → ℕ)
    (w : (⟨s.rank, size⟩ : Shape).Idx → Val e) : s.Idx → Val e :=
  fun y => if h : ∀ a, off a ≤ (y a).val ∧ (y a).val < off a + size a then w (@Rect.unitLocal s off size y h) else X y

section Rules

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

/-- Loading a box of a memref held at `X` keeps it and yields that part of `X`. -/
theorem load_owned {cs : CoreSpace} {m : Memref sig c.2.kind cs s e} {off size : Fin s.rank → ℕ}
    {inb : ∀ a, off a + size a ≤ s.size a} {hl : m.view.LoadsAt (Rect.unit off size inb).toLoadRect}
    {k : ((⟨s.rank, size⟩ : Shape).Idx → Val e) → Prog (TpuEff nD τ sig Val Λ c.2) α}
    {q : PosShare TreeShare} {X : s.Idx → Val e} :
    owns c m q X
      ⊢ iprop((owns c m q X -∗ wp frame (wpE defs 𝒱 c bd) E (k (window X off size inb)) Q)
        -∗ wp frame (wpE defs 𝒱 c bd) E (Prog.lift (.load m (Rect.unit off size inb).toLoadRect hl) >>= k) Q) := by
  unfold owns
  iintro ⟨%f, %hf, Hf⟩
  iintro Hk
  have hr : m.view.readAt Val (Rect.unit off size inb).toLoadRect f = window X off size inb := by
    funext x
    have : m.view.readAt Val (Rect.unit off size inb).toLoadRect f x
      = m.view.read Val f ((Rect.unit off size inb).toLoadRect.idx x) := rfl
    rw [this, hf]
    refine congrArg X (funext fun a => Fin.ext ?_)
    show off a + 1 * (x a).val = off a + (x a).val
    omega
  iapply (wp_load 𝒱 c bd E (S := m.view.set) (m := m) (r := (Rect.unit off size inb).toLoadRect) (hl := hl) (k := k)
    (View.setOn_subset_set _ _)) $$ [Hf]
  · iexact Hf
  rw [hr]
  iintro Hf
  iapply Hk $$ [Hf]
  iexists f
  isplitl []
  · ipureintro
    exact hf
  iexact Hf

/-- Storing into a box of a memref held at `X` leaves `X` with that box replaced. -/
theorem store_owned {cs : CoreSpace} {m : Memref sig c.2.kind cs s e} {off size : Fin s.rank → ℕ}
    {inb : ∀ a, off a + size a ≤ s.size a} {w : (⟨s.rank, size⟩ : Shape).Idx → Val e}
    {hx : (m.access (Rect.unit off size inb)).Stores Finset.univ}
    {hm : (Finset.univ : Finset (Rect.unit off size inb).shape.Idx) = Finset.univ ∨ ∀ a, (Rect.unit off size inb).stride a = 1}
    {k : PUnit → Prog (TpuEff nD τ sig Val Λ c.2) α} {X : s.Idx → Val e} :
    owns c m fullShare X
      ⊢ iprop((owns c m fullShare (patch X off size w) -∗ wp frame (wpE defs 𝒱 c bd) E (k ⟨⟩) Q)
        -∗ wp frame (wpE defs 𝒱 c bd) E
          (Prog.lift (.store m (Rect.unit off size inb) w Finset.univ hx hm) >>= k) Q) := by
  unfold owns
  iintro ⟨%f, %hf, Hf⟩
  iintro Hk
  have hr : m.view.read Val (m.view.writes Val f [⟨Rect.unit off size inb, w⟩]) = patch X off size w := by
    funext y
    rw [View.read_writes_cons_unit m.view f inb w [] y rfl]
    subst hf
    rfl
  iapply (wp_store_writes₀ 𝒱 c bd E (S := m.view.set) (m := m) (r := Rect.unit off size inb) (w := w) (hx := hx) (hm := hm)
    (k := k) (f := f) ((View.set_slice m.view (Rect.unit off size inb)).le.trans (View.setOn_subset_set _ _))) $$ [Hf]
  · iexact Hf
  iintro Hf
  iapply Hk $$ [Hf]
  iexists m.view.writes Val f [⟨Rect.unit off size inb, w⟩]
  isplitl []
  · ipureintro
    exact hr
  iexact Hf

end Rules

/-- Replacing the whole of `X` leaves the replacement. -/
theorem patch_whole {Val : EltTy → Type} {s : Shape} {e : EltTy} (X : s.Idx → Val e) (off : Fin s.rank → ℕ)
    (h : off = 0) (w : s.Idx → Val e) : patch X off s.size w = w := by
  subst h
  funext y
  have : ∀ a, (0 : Fin s.rank → ℕ) a ≤ (y a).val ∧ (y a).val < (0 : Fin s.rank → ℕ) a + s.size a := fun a =>
    ⟨Nat.zero_le _, by simp⟩
  unfold patch
  rw [dif_pos this]
  exact congrArg w (funext fun a => Fin.ext (Nat.sub_zero _))

/-- The part of `X` inside the whole box is `X`. -/
theorem window_whole {Val : EltTy → Type} {s : Shape} {e : EltTy} (X : s.Idx → Val e) (off : Fin s.rank → ℕ)
    (h : off = 0) (inb : ∀ a, off a + s.size a ≤ s.size a) : window X off s.size inb = X := by
  subst h
  funext y
  exact congrArg X (funext fun a => Fin.ext (Nat.zero_add _))

/-- The zero offsets of a rank-4 box. -/
theorem zero4 : (![0, 0, 0, 0] : Fin 4 → ℕ) = 0 := by
  funext a
  fin_cases a <;> rfl

/-- The zero offsets of a rank-3 box. -/
theorem zero3 : (![0, 0, 0] : Fin 3 → ℕ) = 0 := by
  funext a
  fin_cases a <;> rfl

section Whole

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

/-- Loading the whole of a memref held at `X` yields `X`. -/
theorem load_all {cs : CoreSpace} {m : Memref sig c.2.kind cs s e} {off : Fin s.rank → ℕ} (h0 : off = 0)
    {inb : ∀ a, off a + s.size a ≤ s.size a} {hl : m.view.LoadsAt (Rect.unit off s.size inb).toLoadRect}
    {k : (s.Idx → Val e) → Prog (TpuEff nD τ sig Val Λ c.2) α}
    {q : PosShare TreeShare} {X : s.Idx → Val e} :
    owns c m q X
      ⊢ iprop((owns c m q X -∗ wp frame (wpE defs 𝒱 c bd) E (k X) Q)
        -∗ wp frame (wpE defs 𝒱 c bd) E (Prog.lift (.load m (Rect.unit off s.size inb).toLoadRect hl) >>= k) Q) := by
  have h := load_owned 𝒱 c bd E (defs := defs) (Q := Q) (m := m) (inb := inb) (hl := hl) (k := k) (q := q) (X := X)
  rwa [window_whole X off h0 inb] at h

/-- Storing over the whole of a memref leaves what was stored. -/
theorem store_all {cs : CoreSpace} {m : Memref sig c.2.kind cs s e} {off : Fin s.rank → ℕ} (h0 : off = 0)
    {inb : ∀ a, off a + s.size a ≤ s.size a} {w : s.Idx → Val e}
    {hx : (m.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig Val Λ c.2) α} {X : s.Idx → Val e} :
    owns c m fullShare X
      ⊢ iprop((owns c m fullShare w -∗ wp frame (wpE defs 𝒱 c bd) E (k ⟨⟩) Q)
        -∗ wp frame (wpE defs 𝒱 c bd) E
          (Prog.lift (.store m (Rect.unit off s.size inb) w Finset.univ hx hm) >>= k) Q) := by
  have h := store_owned 𝒱 c bd E (defs := defs) (Q := Q) (m := m) (inb := inb) (w := w) (hx := hx) (hm := hm) (k := k)
    (X := X)
  rwa [patch_whole X off h0 w] at h

end Whole

end Cert.Stat

end

end
-- ==== Proof.Pairs.lean ====
module

public import proofs.«01_k».proof.Proof.Own

@[expose] public section

/-! The loop over pairs of rows: its invariant and what it leaves. -/

set_option maxRecDepth 16384
set_option maxHeartbeats 1000000

noncomputable section

namespace Cert.Stat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources of a run of the kernel. -/
local notation "𝕄" => MT nD τ sig Unit (Elt F) ℕ (UR sig nD τ) ℕ

/-- The carried row after pair `k` of the second loop, from the row `acc` carried in: the pair's products `A`
(odd member times even member) times `acc`, plus the pair's combined input `B`. -/
def pairCarry (A : Vec F S4x128x8x1 .f32) (B : Vec F S4x64x8x256 .f32) (k : Fin k0_t2_loop.trips)
    (acc : Vec F S4x8x256 .f32) : Vec F S4x8x256 .f32 :=
  k0_pay57 acc (window A (k0_off15 k) S4x1x8x1.size (k0_off15_inb k))
    (window B (k0_off16 k) S4x1x8x256.size (k0_off16_inb k))

/-- The output tile after pair `k` of the second loop: row `2k` holds the even member's step and row `2k + 1` the
pair's carried row. -/
def pairRows (A : Vec F S4x128x8x1 .f32) (B : Vec F S4x64x8x256 .f32) (k : Fin k0_t2_loop.trips)
    (acc : Vec F S4x8x256 .f32) (X : Vec F S4x128x8x256 .f32) : Vec F S4x128x8x256 .f32 :=
  patch (patch X (k0_off14 k) S4x1x8x256.size
      (k0_pay56 acc (window A (k0_off13 k) S4x1x8x1.size (k0_off13_inb k))
        (window X (k0_off14 k) S4x1x8x256.size (k0_off14_inb k))))
    (k0_off17 k) S4x1x8x256.size
    (k0_pay58 acc (window A (k0_off15 k) S4x1x8x1.size (k0_off15_inb k))
      (window B (k0_off16 k) S4x1x8x256.size (k0_off16_inb k)))

/-- One trip of the second loop, over the products `A`, the combined inputs `B` and the output tile `X`. -/
theorem pair_trip (𝒱 : Variants) (c : Dev nD) (bd : Option 𝒱.V) (E : Set ℕ) (i : grid0.Coords)
    (arg2 : Memref sig .tc .vmem S4x128x8x256 .f32) (harg2 : arg2.IsWhole) (arg3 : Memref sig .tc .vmem S4x128x8 .f32) (harg3 : arg3.IsWhole) (arg4 : Memref sig .tc .vmem S4x128x8x256 .f32) (harg4 : arg4.IsWhole) (arg5 : Memref sig .tc .vmem S4x136x8x256 .f32) (harg5 : arg5.IsWhole) (arg6 : Memref sig .tc .vmem S4x136x8x1 .f32) (harg6 : arg6.IsWhole) (arg7 : Memref sig .tc .vmem S4x128x8x1 .f32) (harg7 : arg7.IsWhole) (arg8 : Memref sig .tc .vmem S4x64x8x256 .f32) (harg8 : arg8.IsWhole) (arg9 : Memref sig .tc .vmem S4x8x256 .f32) (harg9 : arg9.IsWhole)
    (v25 : FVec F S4x128x8x1 .f32) (k : Fin k0_t2_loop.trips) (acc : Vec F S4x8x256 .f32)
    (A : Vec F S4x128x8x1 .f32) (B : Vec F S4x64x8x256 .f32) (X : Vec F S4x128x8x256 .f32) :
    (iprop(owns (c : Thread nD τ) arg4 fullShare X ∗ owns (c : Thread nD τ) arg7 fullShare A ∗ owns (c : Thread nD τ) arg8 fullShare B) : sProp 𝕄)
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 v25 k acc)
        (fun acc' => iprop(owns (c : Thread nD τ) arg4 fullShare (pairRows A B k acc X) ∗ owns (c : Thread nD τ) arg7 fullShare A ∗ owns (c : Thread nD τ) arg8 fullShare B ∗ ⌜acc' = pairCarry A B k acc⌝)) := by
  unfold k0_t2_body
  iintro ⟨H4, H7, H8⟩
  iapply (load_owned 𝒱 (c : Thread nD τ) bd E) $$ [H7]
  · iexact H7
  iintro H7
  iapply (load_owned 𝒱 (c : Thread nD τ) bd E) $$ [H4]
  · iexact H4
  iintro H4
  iapply (load_owned 𝒱 (c : Thread nD τ) bd E) $$ [H4]
  · iexact H4
  iintro H4
  iapply (store_owned 𝒱 (c : Thread nD τ) bd E) $$ [H4]
  · iexact H4
  iintro H4
  iapply (load_owned 𝒱 (c : Thread nD τ) bd E) $$ [H7]
  · iexact H7
  iintro H7
  iapply (load_owned 𝒱 (c : Thread nD τ) bd E) $$ [H8]
  · iexact H8
  iintro H8
  iapply (load_owned 𝒱 (c : Thread nD τ) bd E) $$ [H4]
  · iexact H4
  iintro H4
  iapply (store_owned 𝒱 (c : Thread nD τ) bd E) $$ [H4]
  · iexact H4
  iintro H4
  rw [wp_pure]
  imodintro
  isplitl [H4]
  · iexact H4
  isplitl [H7]
  · iexact H7
  isplitl [H8]
  · iexact H8
  ipureintro
  rfl

/-- The carried row and the output tile before pair `k` of the second loop, entered with the row `M` and the tile `X`. -/
def pairsAt (A : Vec F S4x128x8x1 .f32) (B : Vec F S4x64x8x256 .f32) (M : Vec F S4x8x256 .f32)
    (X : Vec F S4x128x8x256 .f32) : ℕ → Vec F S4x8x256 .f32 × Vec F S4x128x8x256 .f32
  | 0 => (M, X)
  | k + 1 => if h : k < k0_t2_loop.trips then
      (pairCarry A B ⟨k, h⟩ (pairsAt A B M X k).1, pairRows A B ⟨k, h⟩ (pairsAt A B M X k).1 (pairsAt A B M X k).2)
    else pairsAt A B M X k

/-- A trip takes the carried row and the tile before pair `k` to those before pair `k + 1`. -/
theorem pairsAt_succ (A : Vec F S4x128x8x1 .f32) (B : Vec F S4x64x8x256 .f32) (M : Vec F S4x8x256 .f32)
    (X : Vec F S4x128x8x256 .f32) (k : Fin k0_t2_loop.trips) :
    pairsAt A B M X (k.val + 1)
      = (pairCarry A B k (pairsAt A B M X k.val).1, pairRows A B k (pairsAt A B M X k.val).1 (pairsAt A B M X k.val).2) := by
  rw [pairsAt, dif_pos k.isLt]

/-- The products of the pairs' members (rows 0 to 63) and the even members' own factors (rows 64 to 127), laid over the
scratch tile `sc`. -/
def pairFactors (v25 : FVec F S4x128x8x1 .f32) (sc : Vec F S4x128x8x1 .f32) : Vec F S4x128x8x1 .f32 :=
  patch (patch sc ![0, 0, 0, 0] S4x64x8x1.size (k0_pay53 v25)) ![0, 64, 0, 0] S4x64x8x1.size (k0_pay54 v25)

/-- The carried row and the output tile after the second loop, from the tile `H` of inputs and the row `M`. -/
def recurred (v25 : FVec F S4x128x8x1 .f32) (sc : Vec F S4x128x8x1 .f32) (H : Vec F S4x128x8x256 .f32)
    (M : Vec F S4x8x256 .f32) : Vec F S4x8x256 .f32 × Vec F S4x128x8x256 .f32 :=
  pairsAt (pairFactors v25 sc) (k0_pay55 v25 H) M H k0_t2_loop.trips

/-- The section of the body that runs the recurrence over the tile's pairs of rows. -/
theorem run_pairs (𝒱 : Variants) (c : Dev nD) (bd : Option 𝒱.V) (E : Set ℕ) (i : grid0.Coords)
    (arg2 : Memref sig .tc .vmem S4x128x8x256 .f32) (harg2 : arg2.IsWhole) (arg3 : Memref sig .tc .vmem S4x128x8 .f32) (harg3 : arg3.IsWhole) (arg4 : Memref sig .tc .vmem S4x128x8x256 .f32) (harg4 : arg4.IsWhole) (arg5 : Memref sig .tc .vmem S4x136x8x256 .f32) (harg5 : arg5.IsWhole) (arg6 : Memref sig .tc .vmem S4x136x8x1 .f32) (harg6 : arg6.IsWhole) (arg7 : Memref sig .tc .vmem S4x128x8x1 .f32) (harg7 : arg7.IsWhole) (arg8 : Memref sig .tc .vmem S4x64x8x256 .f32) (harg8 : arg8.IsWhole) (arg9 : Memref sig .tc .vmem S4x8x256 .f32) (harg9 : arg9.IsWhole)
    (v25 : FVec F S4x128x8x1 .f32) (H : Vec F S4x128x8x256 .f32) (sc : Vec F S4x128x8x1 .f32)
    (b2 : Vec F S4x64x8x256 .f32) (M : Vec F S4x8x256 .f32) :
    (iprop(owns (c : Thread nD τ) arg4 fullShare H ∗ owns (c : Thread nD τ) arg7 fullShare sc ∗ owns (c : Thread nD τ) arg8 fullShare b2 ∗ owns (c : Thread nD τ) arg9 fullShare M) : sProp 𝕄)
      ⊢ wp frame (wpE (defs₀ (F := F)) 𝒱 (c : Thread nD τ) bd) E (k0_part8 (F := F) i arg2 harg2 arg3 harg3 arg4 harg4 arg5 harg5 arg6 harg6 arg7 harg7 arg8 harg8 arg9 harg9 v25)
        (fun r => iprop(owns (c : Thread nD τ) arg4 fullShare (recurred v25 sc H M).2 ∗ owns (c : Thread nD τ) arg7 fullShare (pairFactors v25 sc) ∗ owns (c : Thread nD τ) arg8 fullShare (k0_pay55 v25 H)
          ∗ owns (c : Thread nD τ) arg9 fullShare M ∗ ⌜r = k0_pay59 (recurred v25 sc H M).1⌝)) := by
  rw [k0_part8_eq_skeleton]
  unfold k0_part8_skel
  iintro ⟨H4, H7, H8, H9⟩
  iapply (load_owned 𝒱 (c : Thread nD τ) bd E) $$ [H7]
  · iexact H7
  iintro H7
  iapply (store_owned 𝒱 (c : Thread nD τ) bd E) $$ [H7]
  · iexact H7
  iintro H7
  iapply (load_owned 𝒱 (c : Thread nD τ) bd E) $$ [H7]
  · iexact H7
  iintro H7
  iapply (store_owned 𝒱 (c : Thread nD τ) bd E) $$ [H7]
  · iexact H7
  iintro H7
  iapply (load_all 𝒱 (c : Thread nD τ) bd E zero4) $$ [H4]
  · iexact H4
  iintro H4
  iapply (load_all 𝒱 (c : Thread nD τ) bd E zero4) $$ [H8]
  · iexact H8
  iintro H8
  iapply (store_all 𝒱 (c : Thread nD τ) bd E zero4) $$ [H8]
  · iexact H8
  iintro H8
  iapply (load_all 𝒱 (c : Thread nD τ) bd E zero3) $$ [H9]
  · iexact H9
  iintro H9
  iapply (Scf.wp_for_bind frame (wpE (defs₀ (F := F)) 𝒱 (c : Thread nD τ) bd) E k0_t2_loop.lb k0_t2_loop.ub k0_t2_loop.st k0_t2_ok M
    (k0_t2_body (F := F) i arg2 harg2 arg3 harg3 arg4 harg4 arg5 harg5 arg6 harg6 arg7 harg7 arg8 harg8 arg9 harg9 v25)
    (fun k acc => iprop(owns (c : Thread nD τ) arg4 fullShare (pairsAt (pairFactors v25 sc) (k0_pay55 v25 H) M H k).2 ∗ owns (c : Thread nD τ) arg7 fullShare (pairFactors v25 sc)
      ∗ owns (c : Thread nD τ) arg8 fullShare (k0_pay55 v25 H) ∗ ⌜acc = (pairsAt (pairFactors v25 sc) (k0_pay55 v25 H) M H k).1⌝))
    (fun k acc => by
      iintro ⟨H4, H7, H8, %hacc⟩
      subst hacc
      rw [pairsAt_succ]
      iapply (pair_trip 𝒱 c bd E i arg2 harg2 arg3 harg3 arg4 harg4 arg5 harg5 arg6 harg6 arg7 harg7 arg8 harg8 arg9 harg9 v25 k _ (pairFactors v25 sc) (k0_pay55 v25 H) _)
      isplitl [H4]
      · iexact H4
      isplitl [H7]
      · iexact H7
      iexact H8)) $$ [H4 H7 H8]
  · isplitl [H4]
    · iexact H4
    isplitl [H7]
    · iexact H7
    isplitl [H8]
    · iexact H8
    ipureintro
    rfl
  iintro %acc ⟨H4, H7, H8, %hacc⟩
  subst hacc
  iapply (load_all 𝒱 (c : Thread nD τ) bd E zero3) $$ [H9]
  · iexact H9
  iintro H9
  rw [wp_pure]
  imodintro
  isplitl [H4]
  · iexact H4
  isplitl [H7]
  · iexact H7
  isplitl [H8]
  · iexact H8
  isplitl [H9]
  · iexact H9
  ipureintro
  rfl

end Cert.Stat

end

end
-- ==== Proof.Tile.lean ====
module

public import proofs.«01_k».proof.Proof.Pairs

@[expose] public section

/-! The loop over chunks of four rows, and the tile it leaves. -/

set_option maxRecDepth 16384
set_option maxHeartbeats 1000000

noncomputable section

namespace Cert.Stat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources of a run of the kernel. -/
local notation "𝕄" => MT nD τ sig Unit (Elt F) ℕ (UR sig nD τ) ℕ

/-- The second tile of a row of the grid: a tile on which the window is full. -/
def laterTile : grid0.Coords := fun a => ⟨a.val, by fin_cases a <;> decide⟩

/-- On the second tile of a row the chunked branch is taken. -/
theorem laterTile_cond : k0_cond3 laterTile = 1#1 := by decide

/-- The output tile after chunk `k` of the first loop: in each of the four batch rows, the four rows of the chunk hold the
scaled windowed sum of the rows of `Y`. -/
def chunkRows (Y : Vec F S4x136x8x256 .f32) (sc : Vec F S4x128x8x1 .f32) (k : Fin k0_t1_loop.trips)
    (X : Vec F S4x128x8x256 .f32) : Vec F S4x128x8x256 .f32 :=
  patch (patch (patch (patch X
      (k0_off3 k) S1x4x8x256.size (k0_pay30 (window Y (k0_off1 k) S1x11x8x256.size (k0_off1_inb laterTile k laterTile_cond)) (window sc (k0_off2 k) S1x4x8x1.size (k0_off2_inb laterTile k laterTile_cond))))
      (k0_off6 k) S1x4x8x256.size (k0_pay33 (k0_pay31 (window Y (k0_off4 k) S1x11x8x256.size (k0_off4_inb laterTile k laterTile_cond))) (k0_pay32 (window Y (k0_off4 k) S1x11x8x256.size (k0_off4_inb laterTile k laterTile_cond)))
        (window sc (k0_off5 k) S1x4x8x1.size (k0_off5_inb laterTile k laterTile_cond))))
      (k0_off9 k) S1x4x8x256.size (k0_pay36 (k0_pay34 (window Y (k0_off7 k) S1x11x8x256.size (k0_off7_inb laterTile k laterTile_cond))) (k0_pay35 (window Y (k0_off7 k) S1x11x8x256.size (k0_off7_inb laterTile k laterTile_cond)))
        (window sc (k0_off8 k) S1x4x8x1.size (k0_off8_inb laterTile k laterTile_cond))))
      (k0_off12 k) S1x4x8x256.size (k0_pay48 (k0_pay37 (window Y (k0_off10 k) S1x11x8x256.size (k0_off10_inb laterTile k laterTile_cond))) (window sc (k0_off11 k) S1x4x8x1.size (k0_off11_inb laterTile k laterTile_cond)))

/-- The output tile before chunk `k` of the first loop, entered with `X`. -/
def chunksAt (Y : Vec F S4x136x8x256 .f32) (sc : Vec F S4x128x8x1 .f32) (X : Vec F S4x128x8x256 .f32) :
    ℕ → Vec F S4x128x8x256 .f32
  | 0 => X
  | k + 1 => if h : k < k0_t1_loop.trips then chunkRows Y sc ⟨k, h⟩ (chunksAt Y sc X k) else chunksAt Y sc X k

/-- A trip takes the tile before chunk `k` to the tile before chunk `k + 1`. -/
theorem chunksAt_succ (Y : Vec F S4x136x8x256 .f32) (sc : Vec F S4x128x8x1 .f32) (X : Vec F S4x128x8x256 .f32)
    (k : Fin k0_t1_loop.trips) : chunksAt Y sc X (k.val + 1) = chunkRows Y sc k (chunksAt Y sc X k.val) := by
  rw [chunksAt, dif_pos k.isLt]

/-- One trip of the first loop. -/
theorem chunk_trip (𝒱 : Variants) (c : Dev nD) (bd : Option 𝒱.V) (E : Set ℕ) (i : grid0.Coords)
    (arg2 : Memref sig .tc .vmem S4x128x8x256 .f32) (harg2 : arg2.IsWhole) (arg3 : Memref sig .tc .vmem S4x128x8 .f32) (harg3 : arg3.IsWhole) (arg4 : Memref sig .tc .vmem S4x128x8x256 .f32) (harg4 : arg4.IsWhole) (arg5 : Memref sig .tc .vmem S4x136x8x256 .f32) (harg5 : arg5.IsWhole) (arg6 : Memref sig .tc .vmem S4x136x8x1 .f32) (harg6 : arg6.IsWhole) (arg7 : Memref sig .tc .vmem S4x128x8x1 .f32) (harg7 : arg7.IsWhole) (arg8 : Memref sig .tc .vmem S4x64x8x256 .f32) (harg8 : arg8.IsWhole) (arg9 : Memref sig .tc .vmem S4x8x256 .f32) (harg9 : arg9.IsWhole)
    (h3 : k0_cond3 i = 1#1) (k : Fin k0_t1_loop.trips)
    (Y : Vec F S4x136x8x256 .f32) (sc : Vec F S4x128x8x1 .f32) (X : Vec F S4x128x8x256 .f32) :
    (iprop(owns (c : Thread nD τ) arg4 fullShare X ∗ owns (c : Thread nD τ) arg5 fullShare Y ∗ owns (c : Thread nD τ) arg7 fullShare sc) : sProp 𝕄)
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 h3 k ())
        (fun _ => iprop(owns (c : Thread nD τ) arg4 fullShare (chunkRows Y sc k X) ∗ owns (c : Thread nD τ) arg5 fullShare Y ∗ owns (c : Thread nD τ) arg7 fullShare sc)) := by
  unfold k0_t1_body
  rw [k0_part4_eq_skeleton, k0_part5_eq_skeleton, k0_part6_eq_skeleton]
  unfold k0_part4_skel k0_part5_skel k0_part6_skel
  simp only [bind_assoc, pure_bind]
  iintro ⟨H4, H5, H7⟩
  iapply (load_owned 𝒱 (c : Thread nD τ) bd E) $$ [H5]
  · iexact H5
  iintro H5
  iapply (load_owned 𝒱 (c : Thread nD τ) bd E) $$ [H7]
  · iexact H7
  iintro H7
  iapply (load_owned 𝒱 (c : Thread nD τ) bd E) $$ [H4]
  · iexact H4
  iintro H4
  iapply (store_owned 𝒱 (c : Thread nD τ) bd E) $$ [H4]
  · iexact H4
  iintro H4
  iapply (load_owned 𝒱 (c : Thread nD τ) bd E) $$ [H5]
  · iexact H5
  iintro H5
  iapply (load_owned 𝒱 (c : Thread nD τ) bd E) $$ [H7]
  · iexact H7
  iintro H7
  iapply (load_owned 𝒱 (c : Thread nD τ) bd E) $$ [H4]
  · iexact H4
  iintro H4
  iapply (store_owned 𝒱 (c : Thread nD τ) bd E) $$ [H4]
  · iexact H4
  iintro H4
  iapply (load_owned 𝒱 (c : Thread nD τ) bd E) $$ [H5]
  · iexact H5
  iintro H5
  iapply (load_owned 𝒱 (c : Thread nD τ) bd E) $$ [H7]
  · iexact H7
  iintro H7
  iapply (load_owned 𝒱 (c : Thread nD τ) bd E) $$ [H4]
  · iexact H4
  iintro H4
  iapply (store_owned 𝒱 (c : Thread nD τ) bd E) $$ [H4]
  · iexact H4
  iintro H4
  iapply (load_owned 𝒱 (c : Thread nD τ) bd E) $$ [H5]
  · iexact H5
  iintro H5
  iapply (load_owned 𝒱 (c : Thread nD τ) bd E) $$ [H7]
  · iexact H7
  iintro H7
  iapply (load_owned 𝒱 (c : Thread nD τ) bd E) $$ [H4]
  · iexact H4
  iintro H4
  iapply (store_owned 𝒱 (c : Thread nD τ) bd E) $$ [H4]
  · iexact H4
  iintro H4
  rw [wp_pure]
  imodintro
  isplitl [H4]
  · iexact H4
  isplitl [H5]
  · iexact H5
  iexact H7

/-- The rows of the extended tile: eight rows carried from the tile before, then this tile's rows of `z` times the mask. -/
def inRows (v : Vec F S4x128x8 .f32) (z : Vec F S4x128x8x256 .f32) (Y : Vec F S4x136x8x256 .f32) : Vec F S4x136x8x256 .f32 :=
  patch Y ![0, 8, 0, 0] S4x128x8x256.size (k0_pay43 v z)

/-- The mask's rows, extended the same way. -/
def inMask (v : Vec F S4x128x8 .f32) (U : Vec F S4x136x8x1 .f32) : Vec F S4x136x8x1 .f32 :=
  patch U ![0, 8, 0, 0] S4x128x8x1.size (k0_pay42 v)

/-- On a row's first tile the eight carried rows are zero. -/
def zeroRows (Y : Vec F S4x136x8x256 .f32) : Vec F S4x136x8x256 .f32 :=
  patch Y ![0, 0, 0, 0] S4x8x8x256.size (k0_pay38 (F := F))

/-- And so are the eight carried mask rows. -/
def zeroMask (U : Vec F S4x136x8x1 .f32) : Vec F S4x136x8x1 .f32 :=
  patch U ![0, 0, 0, 0] S4x8x8x1.size (k0_pay39 (F := F))

/-- What the recurrence reads of the mask: this tile's rows, in the form the kernel keeps them in. -/
def rest (U : Vec F S4x136x8x1 .f32) : FVec F S4x128x8x1 .f32 := k0_pay49 U

/-- The first tile's windowed sums, after the first five offsets. -/
def firstSum5 (Y : Vec F S4x136x8x256 .f32) : FVec F S4x128x8x256 .f32 :=
  k0_pay18 (k0_pay3 (F := F)) (k0_pay4 (F := F)) (k0_pay9 (window Y ![0, 8, 0, 0] S4x128x8x256.size inb_S4x136x8x256_S4x128x8x256_0_8_0_0) (window Y ![0, 7, 0, 0] S4x128x8x256.size inb_S4x136x8x256_S4x128x8x256_0_7_0_0)) (k0_pay12 (F := F))
    (window Y ![0, 6, 0, 0] S4x128x8x256.size inb_S4x136x8x256_S4x128x8x256_0_6_0_0) (window Y ![0, 5, 0, 0] S4x128x8x256.size inb_S4x136x8x256_S4x128x8x256_0_5_0_0) (window Y ![0, 4, 0, 0] S4x128x8x256.size inb_S4x136x8x256_S4x128x8x256_0_4_0_0)

/-- The first tile's windowed sums, after the first seven offsets. -/
def firstSum7 (Y : Vec F S4x136x8x256 .f32) : FVec F S4x128x8x256 .f32 :=
  k0_pay25 (k0_pay3 (F := F)) (k0_pay4 (F := F)) (firstSum5 Y) (window Y ![0, 3, 0, 0] S4x128x8x256.size inb_S4x136x8x256_S4x128x8x256_0_3_0_0) (window Y ![0, 2, 0, 0] S4x128x8x256.size inb_S4x136x8x256_S4x128x8x256_0_2_0_0)

/-- The first tile's sums of weight moduli times mask, after the first seven offsets. -/
def firstMask7 (U : Vec F S4x136x8x1 .f32) : FVec F S4x128x8x1 .f32 :=
  k0_pay26 U (k0_pay3 (F := F)) (k0_pay4 (F := F))
    (k0_pay19 U (k0_pay3 (F := F)) (k0_pay4 (F := F)) (k0_pay10 U) (k0_pay12 (F := F)))

/-- The first tile's sums of weight moduli, after the first seven offsets. -/
def firstNorm7 : FVec F S1x128x1x1 .f32 :=
  k0_pay27 (k0_pay3 (F := F)) (k0_pay4 (F := F))
    (k0_pay20 (k0_pay3 (F := F)) (k0_pay4 (F := F)) (k0_pay11 (F := F)) (k0_pay12 (F := F)))

/-- The first tile's scale. -/
def firstScale (v : Vec F S4x128x8 .f32) (U : Vec F S4x136x8x1 .f32) : FVec F S4x128x8x1 .f32 :=
  k0_pay45 v U (firstMask7 U) firstNorm7 (k0_pay29 (k0_pay3 (F := F)) (k0_pay4 (F := F)))

/-- The first tile's inputs to the recurrence. -/
def firstTile (v : Vec F S4x128x8 .f32) (U : Vec F S4x136x8x1 .f32) (Y : Vec F S4x136x8x256 .f32) : FVec F S4x128x8x256 .f32 :=
  k0_pay46 v U (firstSum7 Y) (firstMask7 U) firstNorm7 (k0_pay28 (k0_pay3 (F := F)) (k0_pay4 (F := F)))
    (k0_pay29 (k0_pay3 (F := F)) (k0_pay4 (F := F))) (window Y ![0, 1, 0, 0] S4x128x8x256.size inb_S4x136x8x256_S4x128x8x256_0_1_0_0)

/-- The body's first section on a row's first tile: the inputs to the recurrence by the windowed sums with the weights
that exist there. -/
theorem run_first (𝒱 : Variants) (c : Dev nD) (bd : Option 𝒱.V) (E : Set ℕ) (i : grid0.Coords)
    (arg2 : Memref sig .tc .vmem S4x128x8x256 .f32) (harg2 : arg2.IsWhole) (arg3 : Memref sig .tc .vmem S4x128x8 .f32) (harg3 : arg3.IsWhole) (arg4 : Memref sig .tc .vmem S4x128x8x256 .f32) (harg4 : arg4.IsWhole) (arg5 : Memref sig .tc .vmem S4x136x8x256 .f32) (harg5 : arg5.IsWhole) (arg6 : Memref sig .tc .vmem S4x136x8x1 .f32) (harg6 : arg6.IsWhole) (arg7 : Memref sig .tc .vmem S4x128x8x1 .f32) (harg7 : arg7.IsWhole) (arg8 : Memref sig .tc .vmem S4x64x8x256 .f32) (harg8 : arg8.IsWhole) (arg9 : Memref sig .tc .vmem S4x8x256 .f32) (harg9 : arg9.IsWhole)
    (h1 : Scalar.cmpi .ne (Scalar.extui (Scalar.cmpi .eq (BitVec.ofNat 32 (i 1).val) 0#32) : BitVec 32) 0#32 = 1#1) (h3 : ¬ k0_cond3 i = 1#1)
    (z : Vec F S4x128x8x256 .f32) (v : Vec F S4x128x8 .f32) (H : Vec F S4x128x8x256 .f32) (Y : Vec F S4x136x8x256 .f32)
    (U : Vec F S4x136x8x1 .f32) (sc : Vec F S4x128x8x1 .f32) (M : Vec F S4x8x256 .f32) :
    (iprop(owns (c : Thread nD τ) arg2 fullShare z ∗ owns (c : Thread nD τ) arg3 fullShare v ∗ owns (c : Thread nD τ) arg4 fullShare H ∗ owns (c : Thread nD τ) arg5 fullShare Y ∗ owns (c : Thread nD τ) arg6 fullShare U ∗ owns (c : Thread nD τ) arg7 fullShare sc ∗ owns (c : Thread nD τ) arg9 fullShare M) : sProp 𝕄)
      ⊢ wp frame (wpE (defs₀ (F := F)) 𝒱 (c : Thread nD τ) bd) E (k0_part7 (F := F) i arg2 harg2 arg3 harg3 arg4 harg4 arg5 harg5 arg6 harg6 arg7 harg7 arg8 harg8 arg9 harg9)
        (fun r => iprop(owns (c : Thread nD τ) arg2 fullShare z ∗ owns (c : Thread nD τ) arg3 fullShare v ∗ owns (c : Thread nD τ) arg4 fullShare (firstTile v (inMask v (zeroMask U)) (inRows v z (zeroRows Y))) ∗ owns (c : Thread nD τ) arg5 fullShare (inRows v z (zeroRows Y)) ∗ owns (c : Thread nD τ) arg6 fullShare (inMask v (zeroMask U))
          ∗ owns (c : Thread nD τ) arg7 fullShare (firstScale v (inMask v (zeroMask U))) ∗ owns (c : Thread nD τ) arg9 fullShare (k0_pay40 (F := F)) ∗ ⌜r = rest (inMask v (zeroMask U))⌝)) := by
  rw [k0_part7_eq_skeleton]
  unfold k0_part7_skel
  rw [k0_part1_eq_skeleton, k0_part2_eq_skeleton, k0_part3_eq_skeleton]
  unfold k0_part1_skel k0_part2_skel k0_part3_skel
  simp only [dif_pos h1, dif_neg h3, bind_assoc, pure_bind]
  iintro ⟨H2, H3, H4, H5, H6, H7, H9⟩
  iapply (load_owned 𝒱 (c : Thread nD τ) bd E) $$ [H5]
  · iexact H5
  iintro H5
  iapply (store_owned 𝒱 (c : Thread nD τ) bd E) $$ [H5]
  · iexact H5
  iintro H5
  iapply (load_owned 𝒱 (c : Thread nD τ) bd E) $$ [H6]
  · iexact H6
  iintro H6
  iapply (store_owned 𝒱 (c : Thread nD τ) bd E) $$ [H6]
  · iexact H6
  iintro H6
  iapply (load_all 𝒱 (c : Thread nD τ) bd E zero3) $$ [H9]
  · iexact H9
  iintro H9
  iapply (store_all 𝒱 (c : Thread nD τ) bd E zero3) $$ [H9]
  · iexact H9
  iintro H9
  iapply (load_all 𝒱 (c : Thread nD τ) bd E zero3) $$ [H3]
  · iexact H3
  iintro H3
  iapply (load_owned 𝒱 (c : Thread nD τ) bd E) $$ [H6]
  · iexact H6
  iintro H6
  iapply (store_owned 𝒱 (c : Thread nD τ) bd E) $$ [H6]
  · iexact H6
  iintro H6
  iapply (load_all 𝒱 (c : Thread nD τ) bd E zero4) $$ [H2]
  · iexact H2
  iintro H2
  iapply (load_owned 𝒱 (c : Thread nD τ) bd E) $$ [H5]
  · iexact H5
  iintro H5
  iapply (store_owned 𝒱 (c : Thread nD τ) bd E) $$ [H5]
  · iexact H5
  iintro H5
  iapply (load_all 𝒱 (c : Thread nD τ) bd E zero4) $$ [H6]
  · iexact H6
  iintro H6
  iapply (load_owned 𝒱 (c : Thread nD τ) bd E) $$ [H5]
  · iexact H5
  iintro H5
  iapply (load_owned 𝒱 (c : Thread nD τ) bd E) $$ [H5]
  · iexact H5
  iintro H5
  iapply (load_owned 𝒱 (c : Thread nD τ) bd E) $$ [H5]
  · iexact H5
  iintro H5
  iapply (load_owned 𝒱 (c : Thread nD τ) bd E) $$ [H5]
  · iexact H5
  iintro H5
  iapply (load_owned 𝒱 (c : Thread nD τ) bd E) $$ [H5]
  · iexact H5
  iintro H5
  iapply (load_owned 𝒱 (c : Thread nD τ) bd E) $$ [H5]
  · iexact H5
  iintro H5
  iapply (load_owned 𝒱 (c : Thread nD τ) bd E) $$ [H5]
  · iexact H5
  iintro H5
  iapply (load_owned 𝒱 (c : Thread nD τ) bd E) $$ [H5]
  · iexact H5
  iintro H5
  iapply (load_all 𝒱 (c : Thread nD τ) bd E zero4) $$ [H7]
  · iexact H7
  iintro H7
  iapply (store_all 𝒱 (c : Thread nD τ) bd E zero4) $$ [H7]
  · iexact H7
  iintro H7
  iapply (load_all 𝒱 (c : Thread nD τ) bd E zero4) $$ [H4]
  · iexact H4
  iintro H4
  iapply (store_all 𝒱 (c : Thread nD τ) bd E zero4) $$ [H4]
  · iexact H4
  iintro H4
  rw [wp_pure]
  imodintro
  isplitl [H2]
  · iexact H2
  isplitl [H3]
  · iexact H3
  isplitl [H4]
  · iexact H4
  isplitl [H5]
  · iexact H5
  isplitl [H6]
  · iexact H6
  isplitl [H7]
  · iexact H7
  isplitl [H9]
  · iexact H9
  ipureintro
  rfl

/-- The body's first section on every later tile: the inputs to the recurrence chunk by chunk. -/
theorem run_later (𝒱 : Variants) (c : Dev nD) (bd : Option 𝒱.V) (E : Set ℕ) (i : grid0.Coords)
    (arg2 : Memref sig .tc .vmem S4x128x8x256 .f32) (harg2 : arg2.IsWhole) (arg3 : Memref sig .tc .vmem S4x128x8 .f32) (harg3 : arg3.IsWhole) (arg4 : Memref sig .tc .vmem S4x128x8x256 .f32) (harg4 : arg4.IsWhole) (arg5 : Memref sig .tc .vmem S4x136x8x256 .f32) (harg5 : arg5.IsWhole) (arg6 : Memref sig .tc .vmem S4x136x8x1 .f32) (harg6 : arg6.IsWhole) (arg7 : Memref sig .tc .vmem S4x128x8x1 .f32) (harg7 : arg7.IsWhole) (arg8 : Memref sig .tc .vmem S4x64x8x256 .f32) (harg8 : arg8.IsWhole) (arg9 : Memref sig .tc .vmem S4x8x256 .f32) (harg9 : arg9.IsWhole)
    (h1 : ¬ Scalar.cmpi .ne (Scalar.extui (Scalar.cmpi .eq (BitVec.ofNat 32 (i 1).val) 0#32) : BitVec 32) 0#32 = 1#1) (h3 : k0_cond3 i = 1#1)
    (z : Vec F S4x128x8x256 .f32) (v : Vec F S4x128x8 .f32) (H : Vec F S4x128x8x256 .f32) (Y : Vec F S4x136x8x256 .f32)
    (U : Vec F S4x136x8x1 .f32) (sc : Vec F S4x128x8x1 .f32) (M : Vec F S4x8x256 .f32) :
    (iprop(owns (c : Thread nD τ) arg2 fullShare z ∗ owns (c : Thread nD τ) arg3 fullShare v ∗ owns (c : Thread nD τ) arg4 fullShare H ∗ owns (c : Thread nD τ) arg5 fullShare Y ∗ owns (c : Thread nD τ) arg6 fullShare U ∗ owns (c : Thread nD τ) arg7 fullShare sc ∗ owns (c : Thread nD τ) arg9 fullShare M) : sProp 𝕄)
      ⊢ wp frame (wpE (defs₀ (F := F)) 𝒱 (c : Thread nD τ) bd) E (k0_part7 (F := F) i arg2 harg2 arg3 harg3 arg4 harg4 arg5 harg5 arg6 harg6 arg7 harg7 arg8 harg8 arg9 harg9)
        (fun r => iprop(owns (c : Thread nD τ) arg2 fullShare z ∗ owns (c : Thread nD τ) arg3 fullShare v ∗ owns (c : Thread nD τ) arg4 fullShare (chunksAt (inRows v z Y) (k0_pay47 v (inMask v U)) H k0_t1_loop.trips) ∗ owns (c : Thread nD τ) arg5 fullShare (inRows v z Y) ∗ owns (c : Thread nD τ) arg6 fullShare (inMask v U)
          ∗ owns (c : Thread nD τ) arg7 fullShare (k0_pay47 v (inMask v U)) ∗ owns (c : Thread nD τ) arg9 fullShare M ∗ ⌜r = rest (inMask v U)⌝)) := by
  rw [k0_part7_eq_skeleton]
  unfold k0_part7_skel
  simp only [dif_neg h1, dif_pos h3, bind_assoc, pure_bind]
  iintro ⟨H2, H3, H4, H5, H6, H7, H9⟩
  iapply (load_all 𝒱 (c : Thread nD τ) bd E zero3) $$ [H3]
  · iexact H3
  iintro H3
  iapply (load_owned 𝒱 (c : Thread nD τ) bd E) $$ [H6]
  · iexact H6
  iintro H6
  iapply (store_owned 𝒱 (c : Thread nD τ) bd E) $$ [H6]
  · iexact H6
  iintro H6
  iapply (load_all 𝒱 (c : Thread nD τ) bd E zero4) $$ [H2]
  · iexact H2
  iintro H2
  iapply (load_owned 𝒱 (c : Thread nD τ) bd E) $$ [H5]
  · iexact H5
  iintro H5
  iapply (store_owned 𝒱 (c : Thread nD τ) bd E) $$ [H5]
  · iexact H5
  iintro H5
  iapply (load_all 𝒱 (c : Thread nD τ) bd E zero4) $$ [H6]
  · iexact H6
  iintro H6
  iapply (load_all 𝒱 (c : Thread nD τ) bd E zero4) $$ [H7]
  · iexact H7
  iintro H7
  iapply (store_all 𝒱 (c : Thread nD τ) bd E zero4) $$ [H7]
  · iexact H7
  iintro H7
  iapply (Scf.wp_for_bind frame (wpE (defs₀ (F := F)) 𝒱 (c : Thread nD τ) bd) E k0_t1_loop.lb k0_t1_loop.ub k0_t1_loop.st (k0_t1_ok i h3) ()
    (k0_t1_body (F := F) i arg2 harg2 arg3 harg3 arg4 harg4 arg5 harg5 arg6 harg6 arg7 harg7 arg8 harg8 arg9 harg9 h3)
    (fun k _ => iprop(owns (c : Thread nD τ) arg4 fullShare (chunksAt (inRows v z Y) (k0_pay47 v (inMask v U)) H k) ∗ owns (c : Thread nD τ) arg5 fullShare (inRows v z Y) ∗ owns (c : Thread nD τ) arg7 fullShare (k0_pay47 v (inMask v U))))
    (fun k _ => by
      iintro ⟨H4, H5, H7⟩
      rw [chunksAt_succ]
      iapply (chunk_trip 𝒱 c bd E i arg2 harg2 arg3 harg3 arg4 harg4 arg5 harg5 arg6 harg6 arg7 harg7 arg8 harg8 arg9 harg9 h3 k (inRows v z Y) (k0_pay47 v (inMask v U)) _)
      isplitl [H4]
      · iexact H4
      isplitl [H5]
      · iexact H5
      iexact H7)) $$ [H4 H5 H7]
  · isplitl [H4]
    · iexact H4
    isplitl [H5]
    · iexact H5
    iexact H7
  iintro %acc ⟨H4, H5, H7⟩
  rw [wp_pure]
  imodintro
  isplitl [H2]
  · iexact H2
  isplitl [H3]
  · iexact H3
  isplitl [H4]
  · iexact H4
  isplitl [H5]
  · iexact H5
  isplitl [H6]
  · iexact H6
  isplitl [H7]
  · iexact H7
  isplitl [H9]
  · iexact H9
  ipureintro
  rfl

end Cert.Stat

end

end
-- ==== Proof.Body.lean ====
module

public import proofs.«01_k».proof.Proof.Tile

@[expose] public section

/-! The kernel's body at a grid point, run once: its two branches, its two loops, and what it leaves. -/

set_option maxRecDepth 16384
set_option maxHeartbeats 1000000

noncomputable section

namespace Cert.Stat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources of a run of the kernel. -/
local notation "𝕄" => MT nD τ sig Unit (Elt F) ℕ (UR sig nD τ) ℕ

/-- What the body carries from one tile to the next: the last eight rows (kept in the first eight rows of the extended
tiles of inputs and of the mask) and the memory row. -/
structure Carry (F : FTy → Type) where
  /-- The extended tile of masked inputs. -/
  Y : Vec F S4x136x8x256 .f32
  /-- The extended tile of the mask. -/
  U : Vec F S4x136x8x1 .f32
  /-- The memory row. -/
  M : Vec F S4x8x256 .f32

/-- The extended tile with its last eight rows moved to the front. -/
def keepRows (Y : Vec F S4x136x8x256 .f32) : Vec F S4x136x8x256 .f32 :=
  patch Y ![0, 0, 0, 0] S4x8x8x256.size
    (k0_pay1 (window Y ![0, 128, 0, 0] S4x8x8x256.size inb_S4x136x8x256_S4x8x8x256_0_128_0_0))

/-- The extended mask with its last eight rows moved to the front. -/
def keepMask (U : Vec F S4x136x8x1 .f32) : Vec F S4x136x8x1 .f32 :=
  patch U ![0, 0, 0, 0] S4x8x8x1.size
    (k0_pay2 (window U ![0, 128, 0, 0] S4x8x8x1.size inb_S4x136x8x1_S4x8x8x1_0_128_0_0))

/-- A row's first tile: the memory row and the output tile the recurrence ends at. -/
def firstRun (v : Vec F S4x128x8 .f32) (z : Vec F S4x128x8x256 .f32) (C : Carry F) :
    Vec F S4x8x256 .f32 × Vec F S4x128x8x256 .f32 :=
  recurred (rest (inMask v (zeroMask C.U))) (firstScale v (inMask v (zeroMask C.U)))
    (firstTile v (inMask v (zeroMask C.U)) (inRows v z (zeroRows C.Y))) (k0_pay40 (F := F))

/-- What a row's first tile leaves for the next. -/
def firstCarry (v : Vec F S4x128x8 .f32) (z : Vec F S4x128x8x256 .f32) (C : Carry F) : Carry F :=
  ⟨keepRows (inRows v z (zeroRows C.Y)), keepMask (inMask v (zeroMask C.U)), k0_pay59 (firstRun v z C).1⟩

/-- A later tile: the memory row and the output tile the recurrence ends at, the output tile entered with `H`. -/
def laterRun (v : Vec F S4x128x8 .f32) (z : Vec F S4x128x8x256 .f32) (C : Carry F) (H : Vec F S4x128x8x256 .f32) :
    Vec F S4x8x256 .f32 × Vec F S4x128x8x256 .f32 :=
  recurred (rest (inMask v C.U)) (k0_pay47 v (inMask v C.U))
    (chunksAt (inRows v z C.Y) (k0_pay47 v (inMask v C.U)) H k0_t1_loop.trips) C.M

/-- What a later tile leaves for the next. -/
def laterCarry (v : Vec F S4x128x8 .f32) (z : Vec F S4x128x8x256 .f32) (C : Carry F) (H : Vec F S4x128x8x256 .f32) : Carry F :=
  ⟨keepRows (inRows v z C.Y), keepMask (inMask v C.U), k0_pay59 (laterRun v z C H).1⟩

/-- The body on a row's first tile. -/
theorem body_first (𝒱 : Variants) (c : Dev nD) (bd : Option 𝒱.V) (E : Set ℕ) (i : grid0.Coords)
    (arg2 : Memref sig .tc .vmem S4x128x8x256 .f32) (harg2 : arg2.IsWhole) (arg3 : Memref sig .tc .vmem S4x128x8 .f32) (harg3 : arg3.IsWhole) (arg4 : Memref sig .tc .vmem S4x128x8x256 .f32) (harg4 : arg4.IsWhole) (arg5 : Memref sig .tc .vmem S4x136x8x256 .f32) (harg5 : arg5.IsWhole) (arg6 : Memref sig .tc .vmem S4x136x8x1 .f32) (harg6 : arg6.IsWhole) (arg7 : Memref sig .tc .vmem S4x128x8x1 .f32) (harg7 : arg7.IsWhole) (arg8 : Memref sig .tc .vmem S4x64x8x256 .f32) (harg8 : arg8.IsWhole) (arg9 : Memref sig .tc .vmem S4x8x256 .f32) (harg9 : arg9.IsWhole)
    (h1 : Scalar.cmpi .ne (Scalar.extui (Scalar.cmpi .eq (BitVec.ofNat 32 (i 1).val) 0#32) : BitVec 32) 0#32 = 1#1) (h3 : ¬ k0_cond3 i = 1#1)
    (z : Vec F S4x128x8x256 .f32) (v : Vec F S4x128x8 .f32) (H : Vec F S4x128x8x256 .f32) (C : Carry F)
    (sc : Vec F S4x128x8x1 .f32) (b2 : Vec F S4x64x8x256 .f32) :
    (iprop(owns (c : Thread nD τ) arg2 fullShare z ∗ owns (c : Thread nD τ) arg3 fullShare v ∗ owns (c : Thread nD τ) arg4 fullShare H ∗ owns (c : Thread nD τ) arg5 fullShare C.Y ∗ owns (c : Thread nD τ) arg6 fullShare C.U ∗ owns (c : Thread nD τ) arg7 fullShare sc ∗ owns (c : Thread nD τ) arg8 fullShare b2 ∗ owns (c : Thread nD τ) arg9 fullShare C.M) : sProp 𝕄)
      ⊢ wp frame (wpE (defs₀ (F := F)) 𝒱 (c : Thread nD τ) bd) E (cc0_stat_mem (F := F) i arg2 harg2 arg3 harg3 arg4 harg4 arg5 harg5 arg6 harg6 arg7 harg7 arg8 harg8 arg9 harg9)
        (fun _ => iprop(owns (c : Thread nD τ) arg2 fullShare z ∗ owns (c : Thread nD τ) arg3 fullShare v ∗ owns (c : Thread nD τ) arg4 fullShare (firstRun v z C).2 ∗ owns (c : Thread nD τ) arg5 fullShare (firstCarry v z C).Y ∗ owns (c : Thread nD τ) arg6 fullShare (firstCarry v z C).U
          ∗ (∃ sc', owns (c : Thread nD τ) arg7 fullShare sc') ∗ (∃ b', owns (c : Thread nD τ) arg8 fullShare b') ∗ owns (c : Thread nD τ) arg9 fullShare (firstCarry v z C).M)) := by
  rw [cc0_stat_mem_eq_skeleton]
  unfold cc0_stat_mem_skel
  iintro ⟨H2, H3, H4, H5, H6, H7, H8, H9⟩
  rw [wp_bind]
  iapply (wp_wand_r frame (wpE (defs₀ (F := F)) 𝒱 (c : Thread nD τ) bd) E)
  isplitl [H2 H3 H4 H5 H6 H7 H9]
  · iapply (run_first 𝒱 c bd E i arg2 harg2 arg3 harg3 arg4 harg4 arg5 harg5 arg6 harg6 arg7 harg7 arg8 harg8 arg9 harg9 h1 h3 z v H C.Y C.U sc C.M)
    isplitl [H2]
    · iexact H2
    isplitl [H3]
    · iexact H3
    isplitl [H4]
    · iexact H4
    isplitl [H5]
    · iexact H5
    isplitl [H6]
    · iexact H6
    isplitl [H7]
    · iexact H7
    iexact H9
  iintro %r ⟨H2, H3, H4, H5, H6, H7, H9, %hr⟩
  subst hr
  rw [wp_bind]
  iapply (wp_wand_r frame (wpE (defs₀ (F := F)) 𝒱 (c : Thread nD τ) bd) E)
  isplitl [H4 H7 H8 H9]
  · iapply (run_pairs 𝒱 c bd E i arg2 harg2 arg3 harg3 arg4 harg4 arg5 harg5 arg6 harg6 arg7 harg7 arg8 harg8 arg9 harg9 (rest (inMask v (zeroMask C.U))) (firstTile v (inMask v (zeroMask C.U)) (inRows v z (zeroRows C.Y))) (firstScale v (inMask v (zeroMask C.U))) b2 (k0_pay40 (F := F)))
    isplitl [H4]
    · iexact H4
    isplitl [H7]
    · iexact H7
    isplitl [H8]
    · iexact H8
    iexact H9
  iintro %r ⟨H4, H7, H8, H9, %hr⟩
  subst hr
  iapply (store_all 𝒱 (c : Thread nD τ) bd E zero3) $$ [H9]
  · iexact H9
  iintro H9
  iapply (load_owned 𝒱 (c : Thread nD τ) bd E) $$ [H5]
  · iexact H5
  iintro H5
  iapply (load_owned 𝒱 (c : Thread nD τ) bd E) $$ [H5]
  · iexact H5
  iintro H5
  iapply (store_owned 𝒱 (c : Thread nD τ) bd E) $$ [H5]
  · iexact H5
  iintro H5
  iapply (load_owned 𝒱 (c : Thread nD τ) bd E) $$ [H6]
  · iexact H6
  iintro H6
  iapply (load_owned 𝒱 (c : Thread nD τ) bd E) $$ [H6]
  · iexact H6
  iintro H6
  iapply (store_owned 𝒱 (c : Thread nD τ) bd E) $$ [H6]
  · iexact H6
  iintro H6
  rw [wp_pure]
  imodintro
  isplitl [H2]
  · iexact H2
  isplitl [H3]
  · iexact H3
  isplitl [H4]
  · iexact H4
  isplitl [H5]
  · iexact H5
  isplitl [H6]
  · iexact H6
  isplitl [H7]
  · iexists _
    iexact H7
  isplitl [H8]
  · iexists _
    iexact H8
  iexact H9

/-- The body on every later tile of a row. -/
theorem body_later (𝒱 : Variants) (c : Dev nD) (bd : Option 𝒱.V) (E : Set ℕ) (i : grid0.Coords)
    (arg2 : Memref sig .tc .vmem S4x128x8x256 .f32) (harg2 : arg2.IsWhole) (arg3 : Memref sig .tc .vmem S4x128x8 .f32) (harg3 : arg3.IsWhole) (arg4 : Memref sig .tc .vmem S4x128x8x256 .f32) (harg4 : arg4.IsWhole) (arg5 : Memref sig .tc .vmem S4x136x8x256 .f32) (harg5 : arg5.IsWhole) (arg6 : Memref sig .tc .vmem S4x136x8x1 .f32) (harg6 : arg6.IsWhole) (arg7 : Memref sig .tc .vmem S4x128x8x1 .f32) (harg7 : arg7.IsWhole) (arg8 : Memref sig .tc .vmem S4x64x8x256 .f32) (harg8 : arg8.IsWhole) (arg9 : Memref sig .tc .vmem S4x8x256 .f32) (harg9 : arg9.IsWhole)
    (h1 : ¬ Scalar.cmpi .ne (Scalar.extui (Scalar.cmpi .eq (BitVec.ofNat 32 (i 1).val) 0#32) : BitVec 32) 0#32 = 1#1) (h3 : k0_cond3 i = 1#1)
    (z : Vec F S4x128x8x256 .f32) (v : Vec F S4x128x8 .f32) (H : Vec F S4x128x8x256 .f32) (C : Carry F)
    (sc : Vec F S4x128x8x1 .f32) (b2 : Vec F S4x64x8x256 .f32) :
    (iprop(owns (c : Thread nD τ) arg2 fullShare z ∗ owns (c : Thread nD τ) arg3 fullShare v ∗ owns (c : Thread nD τ) arg4 fullShare H ∗ owns (c : Thread nD τ) arg5 fullShare C.Y ∗ owns (c : Thread nD τ) arg6 fullShare C.U ∗ owns (c : Thread nD τ) arg7 fullShare sc ∗ owns (c : Thread nD τ) arg8 fullShare b2 ∗ owns (c : Thread nD τ) arg9 fullShare C.M) : sProp 𝕄)
      ⊢ wp frame (wpE (defs₀ (F := F)) 𝒱 (c : Thread nD τ) bd) E (cc0_stat_mem (F := F) i arg2 harg2 arg3 harg3 arg4 harg4 arg5 harg5 arg6 harg6 arg7 harg7 arg8 harg8 arg9 harg9)
        (fun _ => iprop(owns (c : Thread nD τ) arg2 fullShare z ∗ owns (c : Thread nD τ) arg3 fullShare v ∗ owns (c : Thread nD τ) arg4 fullShare (laterRun v z C H).2 ∗ owns (c : Thread nD τ) arg5 fullShare (laterCarry v z C H).Y ∗ owns (c : Thread nD τ) arg6 fullShare (laterCarry v z C H).U
          ∗ (∃ sc', owns (c : Thread nD τ) arg7 fullShare sc') ∗ (∃ b', owns (c : Thread nD τ) arg8 fullShare b') ∗ owns (c : Thread nD τ) arg9 fullShare (laterCarry v z C H).M)) := by
  rw [cc0_stat_mem_eq_skeleton]
  unfold cc0_stat_mem_skel
  iintro ⟨H2, H3, H4, H5, H6, H7, H8, H9⟩
  rw [wp_bind]
  iapply (wp_wand_r frame (wpE (defs₀ (F := F)) 𝒱 (c : Thread nD τ) bd) E)
  isplitl [H2 H3 H4 H5 H6 H7 H9]
  · iapply (run_later 𝒱 c bd E i arg2 harg2 arg3 harg3 arg4 harg4 arg5 harg5 arg6 harg6 arg7 harg7 arg8 harg8 arg9 harg9 h1 h3 z v H C.Y C.U sc C.M)
    isplitl [H2]
    · iexact H2
    isplitl [H3]
    · iexact H3
    isplitl [H4]
    · iexact H4
    isplitl [H5]
    · iexact H5
    isplitl [H6]
    · iexact H6
    isplitl [H7]
    · iexact H7
    iexact H9
  iintro %r ⟨H2, H3, H4, H5, H6, H7, H9, %hr⟩
  subst hr
  rw [wp_bind]
  iapply (wp_wand_r frame (wpE (defs₀ (F := F)) 𝒱 (c : Thread nD τ) bd) E)
  isplitl [H4 H7 H8 H9]
  · iapply (run_pairs 𝒱 c bd E i arg2 harg2 arg3 harg3 arg4 harg4 arg5 harg5 arg6 harg6 arg7 harg7 arg8 harg8 arg9 harg9 (rest (inMask v C.U)) (chunksAt (inRows v z C.Y) (k0_pay47 v (inMask v C.U)) H k0_t1_loop.trips) (k0_pay47 v (inMask v C.U)) b2 C.M)
    isplitl [H4]
    · iexact H4
    isplitl [H7]
    · iexact H7
    isplitl [H8]
    · iexact H8
    iexact H9
  iintro %r ⟨H4, H7, H8, H9, %hr⟩
  subst hr
  iapply (store_all 𝒱 (c : Thread nD τ) bd E zero3) $$ [H9]
  · iexact H9
  iintro H9
  iapply (load_owned 𝒱 (c : Thread nD τ) bd E) $$ [H5]
  · iexact H5
  iintro H5
  iapply (load_owned 𝒱 (c : Thread nD τ) bd E) $$ [H5]
  · iexact H5
  iintro H5
  iapply (store_owned 𝒱 (c : Thread nD τ) bd E) $$ [H5]
  · iexact H5
  iintro H5
  iapply (load_owned 𝒱 (c : Thread nD τ) bd E) $$ [H6]
  · iexact H6
  iintro H6
  iapply (load_owned 𝒱 (c : Thread nD τ) bd E) $$ [H6]
  · iexact H6
  iintro H6
  iapply (store_owned 𝒱 (c : Thread nD τ) bd E) $$ [H6]
  · iexact H6
  iintro H6
  rw [wp_pure]
  imodintro
  isplitl [H2]
  · iexact H2
  isplitl [H3]
  · iexact H3
  isplitl [H4]
  · iexact H4
  isplitl [H5]
  · iexact H5
  isplitl [H6]
  · iexact H6
  isplitl [H7]
  · iexists _
    iexact H7
  isplitl [H8]
  · iexists _
    iexact H8
  iexact H9

end Cert.Stat

end

end
-- ==== Proof.Boxes.lean ====
module

public import proofs.«01_k».proof.Proof.Own
public import Idealize.ShloMosaic.Lib.Pointwise

@[expose] public section

/-! Boxes of an array: reading one, and writing one over an array. -/

set_option maxRecDepth 16384

noncomputable section

namespace Cert.Stat

open Idealize.ShloMosaic

variable {Val : EltTy → Type} {s : Shape} {e : EltTy}

/-- Inside the box, the patched contents are the patch, read at the position within the box. -/
theorem patch_in {X : s.Idx → Val e} {off size : Fin s.rank → ℕ} {w : (⟨s.rank, size⟩ : Shape).Idx → Val e} {y : s.Idx}
    (x : (⟨s.rank, size⟩ : Shape).Idx) (hx : ∀ a, (y a).val = off a + (x a).val) : patch X off size w y = w x := by
  have h : ∀ a, off a ≤ (y a).val ∧ (y a).val < off a + size a := fun a => by
    have h1 := hx a
    have h2 : (x a).val < size a := (x a).isLt
    omega
  unfold patch
  rw [dif_pos h]
  refine congrArg w (funext fun a => Fin.ext ?_)
  rw [Rect.unitLocal_val, hx a]
  omega

/-- An index that misses the box on some axis reads the contents before the patch. -/
theorem patch_out {X : s.Idx → Val e} {off size : Fin s.rank → ℕ} {w : (⟨s.rank, size⟩ : Shape).Idx → Val e} {y : s.Idx}
    (a : Fin s.rank) (ha : (y a).val < off a ∨ off a + size a ≤ (y a).val) : patch X off size w y = X y := by
  unfold patch
  rw [dif_neg]
  intro h
  have := h a
  omega

/-- The part of `X` in a box, read at a position, is `X` at the offset position. -/
theorem window_at {X : s.Idx → Val e} {off size : Fin s.rank → ℕ} {inb : ∀ a, off a + size a ≤ s.size a}
    {x : (⟨s.rank, size⟩ : Shape).Idx} (y : s.Idx) (hx : ∀ a, (y a).val = off a + (x a).val) :
    window X off size inb x = X y :=
  congrArg X (funext fun a => Fin.ext (hx a).symm)

/-- Four coordinates, one at a time. -/
theorem all4 {p : Fin 4 → Prop} (h0 : p 0) (h1 : p 1) (h2 : p 2) (h3 : p 3) : ∀ a, p a := by
  intro a
  fin_cases a
  · exact h0
  · exact h1
  · exact h2
  · exact h3

end Cert.Stat

end

end
-- ==== Proof.Chunks.lean ====
module

public import proofs.«01_k».proof.Proof.Tile
public import proofs.«01_k».proof.Proof.Boxes

@[expose] public section

/-! The chunks of a later tile: four rows at a time, each trip stores the scaled windowed sums of its rows. -/

set_option maxRecDepth 16384
set_option maxHeartbeats 1000000

noncomputable section

namespace Cert.Stat

open Cert.KernelIdeal Cert.KernelIdeal.Gen
open Idealize.ShloMosaic

variable {F : FTy → Type} [FloatOps F]

/-- Where a trip reads the masked values of the first batch row. -/
theorem off1_eq : ∀ k, k0_off1 k = ![0, 4 * k.val + 1, 0, 0] := by decide +kernel
/-- Where a trip reads the scales of the first batch row. -/
theorem off2_eq : ∀ k, k0_off2 k = ![0, 4 * k.val, 0, 0] := by decide +kernel
/-- Where a trip writes the result of the first batch row. -/
theorem off3_eq : ∀ k, k0_off3 k = ![0, 4 * k.val, 0, 0] := by decide +kernel
/-- Where a trip reads the masked values of the second batch row. -/
theorem off4_eq : ∀ k, k0_off4 k = ![1, 4 * k.val + 1, 0, 0] := by decide +kernel
/-- Where a trip reads the scales of the second batch row. -/
theorem off5_eq : ∀ k, k0_off5 k = ![1, 4 * k.val, 0, 0] := by decide +kernel
/-- Where a trip writes the result of the second batch row. -/
theorem off6_eq : ∀ k, k0_off6 k = ![1, 4 * k.val, 0, 0] := by decide +kernel
/-- Where a trip reads the masked values of the third batch row. -/
theorem off7_eq : ∀ k, k0_off7 k = ![2, 4 * k.val + 1, 0, 0] := by decide +kernel
/-- Where a trip reads the scales of the third batch row. -/
theorem off8_eq : ∀ k, k0_off8 k = ![2, 4 * k.val, 0, 0] := by decide +kernel
/-- Where a trip writes the result of the third batch row. -/
theorem off9_eq : ∀ k, k0_off9 k = ![2, 4 * k.val, 0, 0] := by decide +kernel
/-- Where a trip reads the masked values of the fourth batch row. -/
theorem off10_eq : ∀ k, k0_off10 k = ![3, 4 * k.val + 1, 0, 0] := by decide +kernel
/-- Where a trip reads the scales of the fourth batch row. -/
theorem off11_eq : ∀ k, k0_off11 k = ![3, 4 * k.val, 0, 0] := by decide +kernel
/-- Where a trip writes the result of the fourth batch row. -/
theorem off12_eq : ∀ k, k0_off12 k = ![3, 4 * k.val, 0, 0] := by decide +kernel
/-- The loop over chunks makes thirty-two trips. -/
theorem trips1 : k0_t1_loop.trips = 32 := by decide +kernel

/-- The scaled windowed sum of eight rows of the extended tile, ending at row `j + 8` (the tile's own row `j`). -/
def chunkVal (Y : Vec F S4x136x8x256 .f32) (sc : Vec F S4x128x8x1 .f32) (b : Fin 4) (j : Fin 128) (p : Fin 8) (d : Fin 256) :
    F .f32 :=
  FloatOps.mulf (sc (ix4 b j p 0))
    (FloatOps.addf (FloatOps.addf (FloatOps.addf
      (FloatOps.mulf (Scalar.ofBits .f32 0x40E00000#32)
        (FloatOps.subf (Y (ix4 b ⟨j.val + 8, by omega⟩ p d)) (Y (ix4 b ⟨j.val + 1, by omega⟩ p d))))
      (FloatOps.mulf (Scalar.ofBits .f32 0x40A00000#32)
        (FloatOps.subf (Y (ix4 b ⟨j.val + 7, by omega⟩ p d)) (Y (ix4 b ⟨j.val + 2, by omega⟩ p d)))))
      (FloatOps.mulf (Scalar.ofBits .f32 0x40400000#32)
        (FloatOps.subf (Y (ix4 b ⟨j.val + 6, by omega⟩ p d)) (Y (ix4 b ⟨j.val + 3, by omega⟩ p d)))))
      (FloatOps.subf (Y (ix4 b ⟨j.val + 5, by omega⟩ p d)) (Y (ix4 b ⟨j.val + 4, by omega⟩ p d))))

/-- What a chunk stores, element by element. -/
theorem pay30_at (x : Vec F S1x11x8x256 .f32) (s : Vec F S1x4x8x1 .f32) (r : Fin 4) (p : Fin 8) (d : Fin 256) :
    k0_pay30 x s (ix4 0 r p d)
      = FloatOps.mulf (s (ix4 0 r p 0))
    (FloatOps.addf (FloatOps.addf (FloatOps.addf
      (FloatOps.mulf (Scalar.ofBits .f32 0x40E00000#32)
        (FloatOps.subf (x (ix4 0 ⟨7 + r.val, by omega⟩ p d)) (x (ix4 0 ⟨0 + r.val, by omega⟩ p d))))
      (FloatOps.mulf (Scalar.ofBits .f32 0x40A00000#32)
        (FloatOps.subf (x (ix4 0 ⟨6 + r.val, by omega⟩ p d)) (x (ix4 0 ⟨1 + r.val, by omega⟩ p d)))))
      (FloatOps.mulf (Scalar.ofBits .f32 0x40400000#32)
        (FloatOps.subf (x (ix4 0 ⟨5 + r.val, by omega⟩ p d)) (x (ix4 0 ⟨2 + r.val, by omega⟩ p d)))))
      (FloatOps.subf (x (ix4 0 ⟨4 + r.val, by omega⟩ p d)) (x (ix4 0 ⟨3 + r.val, by omega⟩ p d)))) := by
  pointwise [k0_pay30]

/-- The second batch row stores the same expression as the first. -/
theorem pay33_eq (x : Vec F S1x11x8x256 .f32) (s : Vec F S1x4x8x1 .f32) :
    k0_pay33 (k0_pay31 x) (k0_pay32 x) s = k0_pay30 x s := rfl
/-- The third batch row stores the same expression as the first. -/
theorem pay36_eq (x : Vec F S1x11x8x256 .f32) (s : Vec F S1x4x8x1 .f32) :
    k0_pay36 (k0_pay34 x) (k0_pay35 x) s = k0_pay30 x s := rfl
/-- The fourth batch row stores the same expression as the first. -/
theorem pay48_eq (x : Vec F S1x11x8x256 .f32) (s : Vec F S1x4x8x1 .f32) :
    k0_pay48 (k0_pay37 x) s = k0_pay30 x s := rfl

/-- A box of the chunk's rows of `Y` and of `sc` stores the windowed sums of those rows. -/
theorem chunk_pay (Y : Vec F S4x136x8x256 .f32) (sc : Vec F S4x128x8x1 .f32) (k : Fin 32) (b : Fin 4) (r : Fin 4) (p : Fin 8)
    (d : Fin 256) {o1 o2 : Fin 4 → ℕ} (h1 : o1 = ![b.val, 4 * k.val + 1, 0, 0]) (h2 : o2 = ![b.val, 4 * k.val, 0, 0])
    {i1 : ∀ a, o1 a + S1x11x8x256.size a ≤ S4x136x8x256.size a} {i2 : ∀ a, o2 a + S1x4x8x1.size a ≤ S4x128x8x1.size a} :
    k0_pay30 (window Y o1 S1x11x8x256.size i1) (window sc o2 S1x4x8x1.size i2) (ix4 0 r p d)
      = chunkVal Y sc b ⟨4 * k.val + r.val, by omega⟩ p d := by
  subst h1 h2
  rw [pay30_at]
  have hY : ∀ (q : Fin 11) (n : Fin 136), n.val = 4 * k.val + 1 + q.val →
      window Y ![b.val, 4 * k.val + 1, 0, 0] S1x11x8x256.size i1 (ix4 0 q p d) = Y (ix4 b n p d) := fun q n hn =>
    window_at (ix4 b n p d) (all4 rfl hn (Nat.zero_add _).symm (Nat.zero_add _).symm)
  have hS : window sc ![b.val, 4 * k.val, 0, 0] S1x4x8x1.size i2 (ix4 0 r p 0)
      = sc (ix4 b ⟨4 * k.val + r.val, by omega⟩ p 0) :=
    window_at (ix4 b ⟨4 * k.val + r.val, by omega⟩ p 0) (all4 rfl rfl (Nat.zero_add _).symm rfl)
  rw [hS, hY ⟨7 + r.val, by omega⟩ ⟨4 * k.val + r.val + 8, by omega⟩ (by simp only; omega),
    hY ⟨0 + r.val, by omega⟩ ⟨4 * k.val + r.val + 1, by omega⟩ (by simp only; omega),
    hY ⟨6 + r.val, by omega⟩ ⟨4 * k.val + r.val + 7, by omega⟩ (by simp only; omega),
    hY ⟨1 + r.val, by omega⟩ ⟨4 * k.val + r.val + 2, by omega⟩ (by simp only; omega),
    hY ⟨5 + r.val, by omega⟩ ⟨4 * k.val + r.val + 6, by omega⟩ (by simp only; omega),
    hY ⟨2 + r.val, by omega⟩ ⟨4 * k.val + r.val + 3, by omega⟩ (by simp only; omega),
    hY ⟨4 + r.val, by omega⟩ ⟨4 * k.val + r.val + 5, by omega⟩ (by simp only; omega),
    hY ⟨3 + r.val, by omega⟩ ⟨4 * k.val + r.val + 4, by omega⟩ (by simp only; omega)]
  rfl

/-- A chunk's trip leaves the other chunks' rows alone. -/
theorem chunkRows_out (Y : Vec F S4x136x8x256 .f32) (sc : Vec F S4x128x8x1 .f32) (k : Fin k0_t1_loop.trips)
    (X : Vec F S4x128x8x256 .f32) (b : Fin 4) (j : Fin 128) (p : Fin 8) (d : Fin 256)
    (hj : j.val < 4 * k.val ∨ 4 * k.val + 4 ≤ j.val) : chunkRows Y sc k X (ix4 b j p d) = X (ix4 b j p d) := by
  unfold chunkRows
  rw [patch_out 1 (by rw [off12_eq]; exact hj), patch_out 1 (by rw [off9_eq]; exact hj),
    patch_out 1 (by rw [off6_eq]; exact hj), patch_out 1 (by rw [off3_eq]; exact hj)]

/-- A chunk's trip leaves the windowed sums in the chunk's own rows. -/
theorem chunkRows_in (Y : Vec F S4x136x8x256 .f32) (sc : Vec F S4x128x8x1 .f32) (k : Fin k0_t1_loop.trips)
    (X : Vec F S4x128x8x256 .f32) (b : Fin 4) (j : Fin 128) (p : Fin 8) (d : Fin 256) (r : Fin 4)
    (hj : j.val = 4 * k.val + r.val) : chunkRows Y sc k X (ix4 b j p d) = chunkVal Y sc b j p d := by
  have hk : k.val < 32 := lt_of_lt_of_eq k.isLt trips1
  have hlt : 4 * k.val + r.val < 128 := by
    have := r.isLt
    clear hj
    omega
  obtain rfl : j = ⟨4 * k.val + r.val, hlt⟩ := Fin.ext hj
  unfold chunkRows
  fin_cases b
  · rw [patch_out 0 (by rw [off12_eq]; left; exact Nat.zero_lt_succ _), patch_out 0 (by rw [off9_eq]; left; exact Nat.zero_lt_succ _),
      patch_out 0 (by rw [off6_eq]; left; exact Nat.zero_lt_succ _),
      patch_in (ix4 0 r p d) (by rw [off3_eq]; exact all4 rfl rfl (Nat.zero_add _).symm (Nat.zero_add _).symm)]
    exact chunk_pay Y sc ⟨k.val, hk⟩ 0 r p d (off1_eq k) (off2_eq k)
  · rw [patch_out 0 (by rw [off12_eq]; left; exact (by decide : (1 : ℕ) < 3)), patch_out 0 (by rw [off9_eq]; left; exact (by decide : (1 : ℕ) < 2)),
      patch_in (ix4 0 r p d) (by rw [off6_eq]; exact all4 rfl rfl (Nat.zero_add _).symm (Nat.zero_add _).symm), pay33_eq]
    exact chunk_pay Y sc ⟨k.val, hk⟩ 1 r p d (off4_eq k) (off5_eq k)
  · rw [patch_out 0 (by rw [off12_eq]; left; exact (by decide : (2 : ℕ) < 3)),
      patch_in (ix4 0 r p d) (by rw [off9_eq]; exact all4 rfl rfl (Nat.zero_add _).symm (Nat.zero_add _).symm), pay36_eq]
    exact chunk_pay Y sc ⟨k.val, hk⟩ 2 r p d (off7_eq k) (off8_eq k)
  · rw [patch_in (ix4 0 r p d) (by rw [off12_eq]; exact all4 rfl rfl (Nat.zero_add _).symm (Nat.zero_add _).symm), pay48_eq]
    exact chunk_pay Y sc ⟨k.val, hk⟩ 3 r p d (off10_eq k) (off11_eq k)

/-- Before chunk `k`, the rows of the chunks before it hold their windowed sums. -/
theorem chunksAt_at (Y : Vec F S4x136x8x256 .f32) (sc : Vec F S4x128x8x1 .f32) (X : Vec F S4x128x8x256 .f32) (b : Fin 4)
    (j : Fin 128) (p : Fin 8) (d : Fin 256) :
    ∀ k : ℕ, k ≤ 32 → j.val < 4 * k → chunksAt Y sc X k (ix4 b j p d) = chunkVal Y sc b j p d := by
  intro k
  induction k with
  | zero => intro _ hj; omega
  | succ k ih =>
    intro hk hj
    have hk' : k < k0_t1_loop.trips := by rw [trips1]; omega
    rw [show k + 1 = (⟨k, hk'⟩ : Fin k0_t1_loop.trips).val + 1 from rfl, chunksAt_succ]
    by_cases h : j.val < 4 * k
    · rw [chunkRows_out Y sc ⟨k, hk'⟩ _ b j p d (Or.inl h)]
      exact ih (by omega) h
    · exact chunkRows_in Y sc ⟨k, hk'⟩ _ b j p d ⟨j.val - 4 * k, by omega⟩ (by simp only; omega)

/-- After the last chunk, every row holds its windowed sum. -/
theorem chunks_at (Y : Vec F S4x136x8x256 .f32) (sc : Vec F S4x128x8x1 .f32) (X : Vec F S4x128x8x256 .f32) (b : Fin 4)
    (j : Fin 128) (p : Fin 8) (d : Fin 256) :
    chunksAt Y sc X k0_t1_loop.trips (ix4 b j p d) = chunkVal Y sc b j p d := by
  rw [trips1]
  exact chunksAt_at Y sc X b j p d 32 le_rfl (by omega)

/-- What the chunks leave does not depend on what the tile held before. -/
theorem chunks_indep (Y : Vec F S4x136x8x256 .f32) (sc : Vec F S4x128x8x1 .f32) (X X' : Vec F S4x128x8x256 .f32) :
    chunksAt Y sc X k0_t1_loop.trips = chunksAt Y sc X' k0_t1_loop.trips := by
  funext y
  rw [eq_ix4 y]
  exact (chunks_at Y sc X (y 0) (y 1) (y 2) (y 3)).trans (chunks_at Y sc X' (y 0) (y 1) (y 2) (y 3)).symm

end Cert.Stat

end

end
-- ==== Proof.Carried.lean ====
module

public import proofs.«01_k».proof.Proof.Body
public import proofs.«01_k».proof.Proof.Chunks

@[expose] public section

/-! What the body carries from one tile to the next: eight rows of masked values and of masks, and the memory. -/

set_option maxRecDepth 16384
set_option maxHeartbeats 1000000

noncomputable section

namespace Cert.Stat

open Cert.KernelIdeal Cert.KernelIdeal.Gen
open Idealize.ShloMosaic

variable {F : FTy → Type} [FloatOps F]

/-- On a row's first tile the extended inputs do not depend on what was carried: all their rows are written. -/
theorem firstRows_indep (v : Vec F S4x128x8 .f32) (z : Vec F S4x128x8x256 .f32) (Y Y' : Vec F S4x136x8x256 .f32) :
    inRows v z (zeroRows Y) = inRows v z (zeroRows Y') := by
  funext y
  unfold inRows zeroRows patch
  split
  · rfl
  · rename_i h
    have h8 : (y 1).val < 8 := by
      by_contra hc
      exact h (all4 ⟨Nat.zero_le _, by have := (y 0).isLt; simpa using this⟩
        ⟨by simpa using hc, by have := (y 1).isLt; simpa using this⟩
        ⟨Nat.zero_le _, by have := (y 2).isLt; simpa using this⟩ ⟨Nat.zero_le _, by have := (y 3).isLt; simpa using this⟩)
    have hin : ∀ a, (![0, 0, 0, 0] : Fin 4 → ℕ) a ≤ (y a).val
        ∧ (y a).val < (![0, 0, 0, 0] : Fin 4 → ℕ) a + S4x8x8x256.size a :=
      all4 ⟨Nat.zero_le _, by have := (y 0).isLt; simpa using this⟩ ⟨Nat.zero_le _, by simpa using h8⟩
        ⟨Nat.zero_le _, by have := (y 2).isLt; simpa using this⟩ ⟨Nat.zero_le _, by have := (y 3).isLt; simpa using this⟩
    rw [dif_pos hin, dif_pos hin]

/-- And so for the extended mask. -/
theorem firstMask_indep (v : Vec F S4x128x8 .f32) (U U' : Vec F S4x136x8x1 .f32) :
    inMask v (zeroMask U) = inMask v (zeroMask U') := by
  funext y
  unfold inMask zeroMask patch
  split
  · rfl
  · rename_i h
    have h8 : (y 1).val < 8 := by
      by_contra hc
      exact h (all4 ⟨Nat.zero_le _, by have := (y 0).isLt; simpa using this⟩
        ⟨by simpa using hc, by have := (y 1).isLt; simpa using this⟩
        ⟨Nat.zero_le _, by have := (y 2).isLt; simpa using this⟩ ⟨Nat.zero_le _, by have := (y 3).isLt; simpa using this⟩)
    have hin : ∀ a, (![0, 0, 0, 0] : Fin 4 → ℕ) a ≤ (y a).val
        ∧ (y a).val < (![0, 0, 0, 0] : Fin 4 → ℕ) a + S4x8x8x1.size a :=
      all4 ⟨Nat.zero_le _, by have := (y 0).isLt; simpa using this⟩ ⟨Nat.zero_le _, by simpa using h8⟩
        ⟨Nat.zero_le _, by have := (y 2).isLt; simpa using this⟩ ⟨Nat.zero_le _, by have := (y 3).isLt; simpa using this⟩
    rw [dif_pos hin, dif_pos hin]

/-- A row's first tile does not depend on what is carried into it. -/
theorem firstRun_indep (v : Vec F S4x128x8 .f32) (z : Vec F S4x128x8x256 .f32) (C C' : Carry F) :
    firstRun v z C = firstRun v z C' := by
  unfold firstRun
  rw [firstRows_indep v z C.Y C'.Y, firstMask_indep v C.U C'.U]

/-- Nor does what it leaves. -/
theorem firstCarry_indep (v : Vec F S4x128x8 .f32) (z : Vec F S4x128x8x256 .f32) (C C' : Carry F) :
    firstCarry v z C = firstCarry v z C' := by
  unfold firstCarry
  rw [firstRun_indep v z C C', firstRows_indep v z C.Y C'.Y, firstMask_indep v C.U C'.U]

/-- A later tile does not depend on what its output tile held. -/
theorem laterRun_indep (v : Vec F S4x128x8 .f32) (z : Vec F S4x128x8x256 .f32) (C : Carry F) (H H' : Vec F S4x128x8x256 .f32) :
    laterRun v z C H = laterRun v z C H' := by
  unfold laterRun
  rw [chunks_indep _ _ H H']

/-- Nor does what it leaves. -/
theorem laterCarry_indep (v : Vec F S4x128x8 .f32) (z : Vec F S4x128x8x256 .f32) (C : Carry F) (H H' : Vec F S4x128x8x256 .f32) :
    laterCarry v z C H = laterCarry v z C H' := by
  unfold laterCarry
  rw [laterRun_indep v z C H H']

/-- A blank carry, for the point where nothing has been carried yet. -/
def blank : Carry F :=
  ⟨fun _ => Scalar.ofBits .f32 0#32, fun _ => Scalar.ofBits .f32 0#32, fun _ => Scalar.ofBits .f32 0#32⟩

/-- A blank output tile. -/
def blankTile : Vec F S4x128x8x256 .f32 := fun _ => Scalar.ofBits .f32 0#32

/-- The output tile of point `n` from what was carried into it: a row's points are sixteen, the first of them special. -/
def tileOf (n : ℕ) (v : Vec F S4x128x8 .f32) (z : Vec F S4x128x8x256 .f32) (C : Carry F) : Vec F S4x128x8x256 .f32 :=
  if n % 16 = 0 then (firstRun v z C).2 else (laterRun v z C blankTile).2

/-- What point `n` carries on. -/
def carryOf (n : ℕ) (v : Vec F S4x128x8 .f32) (z : Vec F S4x128x8x256 .f32) (C : Carry F) : Carry F :=
  if n % 16 = 0 then firstCarry v z C else laterCarry v z C blankTile

end Cert.Stat

end

end
-- ==== Proof.Launch.lean ====
module

public import Idealize.ShloMosaic.Lib.Claim
public import proofs.«01_k».proof.Proof.Carried
public import proofs.«01_k».proof.Proof.Gen.KernelIdeal.Frame

@[expose] public section

set_option maxRecDepth 16384

noncomputable section

namespace Cert.Stat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources of a run of the kernel. -/
local notation "𝕄" => MT nD τ sig Unit (Elt F) ℕ (UR sig nD τ) ℕ

variable (m : (ℓ : Loc nD τ sig) → Buf (Elt F) ℓ) (ρ : Dev nD → PrngReg)

/-! ## The points of the grid -/

/-- The body's test for a row's first tile holds at the points divisible by 16. -/
theorem first_iff (t : Fin cfg0.N) :
    Scalar.cmpi .ne (Scalar.extui (Scalar.cmpi .eq (BitVec.ofNat 32 (grid0.coords t 1).val) 0#32) : BitVec 32) 0#32 = 1#1
      ↔ t.val % 16 = 0 := by
  have ht : t.val < 32 := Nat.lt_of_lt_of_eq t.isLt N_0
  have e0 : (grid0.coords t 0).val = t.val / 16 % 2 := Pipeline.Grid.coords_val t 0 (by decide) rfl
  have e1 : (grid0.coords t 1).val = t.val / 1 % 16 := Pipeline.Grid.coords_val t 1 (by decide) rfl
  simp only [e0, e1]
  word_cmp

/-- The body's test for a later tile holds at the other points. -/
theorem later_iff : ∀ t : Fin cfg0.N, k0_cond3 (grid0.coords t) = 1#1 ↔ ¬ t.val % 16 = 0 :=
  (by decide +kernel : ∀ t : Fin grid0.N, k0_cond3 (grid0.coords t) = 1#1 ↔ ¬ t.val % 16 = 0)

/-! ## The memory between points -/

/-- The windows' buffers at a point, and the kernel's own buffers. -/
abbrev zM (t : Fin cfg0.N) : Memref sig .tc .vmem S4x128x8x256 .f32 := win0_0.stage (cfg0.slots t 0)
/-- The window that holds a point's masks. -/
abbrev vM (t : Fin cfg0.N) : Memref sig .tc .vmem S4x128x8 .f32 := win0_1.stage (cfg0.slots t 1)
/-- The window that holds a point's results. -/
abbrev hM (t : Fin cfg0.N) : Memref sig .tc .vmem S4x128x8x256 .f32 := win0_2.stage (cfg0.slots t 2)
/-- The buffer of the masked values, eight rows of the tile before first. -/
abbrev yM : Memref sig .tc .vmem S4x136x8x256 .f32 := Memref.whole cc0_scratch0
/-- The buffer of the masks, eight rows of the tile before first. -/
abbrev uM : Memref sig .tc .vmem S4x136x8x1 .f32 := Memref.whole cc0_scratch1
/-- The buffer of the scales, later of the factors. -/
abbrev sM : Memref sig .tc .vmem S4x128x8x1 .f32 := Memref.whole cc0_scratch2
/-- The buffer of the pairs' inputs. -/
abbrev bM : Memref sig .tc .vmem S4x64x8x256 .f32 := Memref.whole cc0_scratch3
/-- The buffer of the memory. -/
abbrev mM : Memref sig .tc .vmem S4x8x256 .f32 := Memref.whole cc0_scratch4

/-- What the launch gives the kernel: its own buffers, at anything. -/
theorem own_rest (c : Dev nD) :
    (Pipeline.ΦA spec0 c : sProp 𝕄)
      = iprop(iprop((∃ d, owns (c : Thread nD τ) yM fullShare d) ∗ (∃ d, owns (c : Thread nD τ) uM fullShare d)
        ∗ (∃ d, owns (c : Thread nD τ) sM fullShare d) ∗ (∃ d, owns (c : Thread nD τ) bM fullShare d)
        ∗ (∃ d, owns (c : Thread nD τ) mM fullShare d)) ∗ (∃ r, prngReg c r)) := by
  unfold Pipeline.ΦA; rw [scopedRest0_eq]; simp only [yM, uM, sM, bM, mM, owns_whole]; try rfl

/-- What is carried into point `n`. -/
def carryAt (c : Dev nD) : ℕ → Carry F
  | 0 => blank
  | n + 1 => if h : n < cfg0.N then carryOf n (iblk m c 1 ⟨n, h⟩) (iblk m c 0 ⟨n, h⟩) (carryAt c n) else blank

/-- A point takes what is carried into it to what is carried into the next. -/
theorem carryAt_succ (c : Dev nD) (t : Fin cfg0.N) :
    carryAt m c (t.val + 1) = carryOf t.val (iblk m c 1 t) (iblk m c 0 t) (carryAt m c t.val) := by
  rw [carryAt, dif_pos t.isLt]

/-- The output tile of point `t`. -/
def tileAt (c : Dev nD) (t : Fin cfg0.N) : Vec F S4x128x8x256 .f32 :=
  tileOf t.val (iblk m c 1 t) (iblk m c 0 t) (carryAt m c t.val)

/-- The kernel's buffers between two points: the carried ones at what is carried, the other two at anything. -/
def between (c : Dev nD) (C : Carry F) : sProp 𝕄 :=
  iprop(iprop(owns (c : Thread nD τ) yM fullShare C.Y ∗ owns (c : Thread nD τ) uM fullShare C.U
    ∗ (∃ d, owns (c : Thread nD τ) sM fullShare d) ∗ (∃ d, owns (c : Thread nD τ) bM fullShare d)
    ∗ owns (c : Thread nD τ) mM fullShare C.M) ∗ (∃ r, prngReg c r))

/-- The invariant before point `n`. -/
def PhiS (c : Dev nD) : ℕ → sProp 𝕄
  | 0 => Pipeline.ΦA spec0 c
  | n + 1 => between c (carryAt m c (n + 1))

/-- Past the first point the invariant holds the carried contents. -/
theorem PhiS_pos (c : Dev nD) (n : ℕ) (hz : n ≠ 0) : PhiS m c n = between c (carryAt m c n) := by
  cases n with
  | zero => exact absurd rfl hz
  | succ n => rfl

/-- The proof data of the kernel's pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tileAt m c t
  Φ t := PhiS m c t.val
  q _ := fullShare
  owed _ := 0

/-- What an array holds before the launch. -/
theorem A_eq (c : Dev nD) (w : Fin cfg0.W) : (dats m 0 c).A w = V m c (Pipeline.arrRef spec0 w) := by
  dsimp only [dats]

/-- A point leaves the values it read. -/
theorem after0 (c : Dev nD) (t : Fin cfg0.N) : (dats m 0 c).after 0 t = iblk m c 0 t := by dsimp only [dats]
/-- A point leaves the masks it read. -/
theorem after1 (c : Dev nD) (t : Fin cfg0.N) : (dats m 0 c).after 1 t = iblk m c 1 t := by dsimp only [dats]
/-- A point leaves its tile of the result. -/
theorem after2 (c : Dev nD) (t : Fin cfg0.N) : (dats m 0 c).after 2 t = tileAt m c t := by dsimp only [dats]

/-- A point finds its block of the values. -/
theorem before0 (c : Dev nD) (t : Fin cfg0.N) (d) : (dats m 0 c).before 0 t d = iblk m c 0 t :=
  before0_0_of m (dats m 0 c) (A_eq m c 0) (after0 m c) t d
/-- A point finds its block of the masks. -/
theorem before1 (c : Dev nD) (t : Fin cfg0.N) (d) : (dats m 0 c).before 1 t d = iblk m c 1 t :=
  before0_1_of m (dats m 0 c) (A_eq m c 1) (after1 m c) t d

/-! ## One point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (zM t) fullShare ((dats m 0 c).before 0 t d))
    ∗ (∃ d, owns (c : Thread nD τ) (vM t) fullShare ((dats m 0 c).before 1 t d))
    ∗ (∃ d, owns (c : Thread nD τ) (hM t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (zM t) fullShare ((dats m 0 c).after 0 t)
    ∗ owns (c : Thread nD τ) (vM t) fullShare ((dats m 0 c).after 1 t)
    ∗ owns (c : Thread nD τ) (hM t) fullShare ((dats m 0 c).after 2 t))

/-- The body at a row's first tile, from any carried contents. -/
theorem point_first (c : Dev nD) (t : Fin cfg0.N) (h0 : t.val % 16 = 0) (C : Carry F) (H : Vec F S4x128x8x256 .f32)
    (sc : Vec F S4x128x8x1 .f32) (b2 : Vec F S4x64x8x256 .f32) :
    (iprop(owns (c : Thread nD τ) (zM t) fullShare (iblk m c 0 t) ∗ owns (c : Thread nD τ) (vM t) fullShare (iblk m c 1 t)
      ∗ owns (c : Thread nD τ) (hM t) fullShare H ∗ owns (c : Thread nD τ) yM fullShare C.Y ∗ owns (c : Thread nD τ) uM fullShare C.U
      ∗ owns (c : Thread nD τ) sM fullShare sc ∗ owns (c : Thread nD τ) bM fullShare b2 ∗ owns (c : Thread nD τ) mM fullShare C.M) : sProp 𝕄)
    ⊢ wp frame (wpE (defs₀ (F := F)) Variants.none (c : Thread nD τ) none) Set.univ (bodyAt0 t)
      (fun _ => iprop(owns (c : Thread nD τ) (zM t) fullShare (iblk m c 0 t) ∗ owns (c : Thread nD τ) (vM t) fullShare (iblk m c 1 t)
        ∗ owns (c : Thread nD τ) (hM t) fullShare (tileAt m c t) ∗ owns (c : Thread nD τ) yM fullShare (carryAt m c (t.val + 1)).Y
        ∗ owns (c : Thread nD τ) uM fullShare (carryAt m c (t.val + 1)).U
        ∗ (∃ d, owns (c : Thread nD τ) sM fullShare d) ∗ (∃ d, owns (c : Thread nD τ) bM fullShare d)
        ∗ owns (c : Thread nD τ) mM fullShare (carryAt m c (t.val + 1)).M)) := by
  have h := body_first (F := F) Variants.none c none Set.univ (grid0.coords t) (zM t) (hstage0_0 ((cfg0.slots t 0).cast nbuf0_0))
    (vM t) (hstage0_1 ((cfg0.slots t 1).cast nbuf0_1)) (hM t) (hstage0_2 ((cfg0.slots t 2).cast nbuf0_2))
    yM (Memref.isWhole_whole _) uM (Memref.isWhole_whole _) sM (Memref.isWhole_whole _) bM (Memref.isWhole_whole _)
    mM (Memref.isWhole_whole _) ((first_iff t).mpr h0) (fun h => (later_iff t).mp h h0) (iblk m c 0 t) (iblk m c 1 t) H C sc b2
  rw [firstCarry_indep (iblk m c 1 t) (iblk m c 0 t) C (carryAt m c t.val),
    firstRun_indep (iblk m c 1 t) (iblk m c 0 t) C (carryAt m c t.val)] at h
  rw [carryAt_succ]
  unfold tileAt tileOf carryOf
  rw [if_pos h0, if_pos h0]
  exact h

/-- The body at a later tile, from what is carried into it. -/
theorem point_later (c : Dev nD) (t : Fin cfg0.N) (h0 : ¬ t.val % 16 = 0) (H : Vec F S4x128x8x256 .f32)
    (sc : Vec F S4x128x8x1 .f32) (b2 : Vec F S4x64x8x256 .f32) :
    (iprop(owns (c : Thread nD τ) (zM t) fullShare (iblk m c 0 t) ∗ owns (c : Thread nD τ) (vM t) fullShare (iblk m c 1 t)
      ∗ owns (c : Thread nD τ) (hM t) fullShare H ∗ owns (c : Thread nD τ) yM fullShare (carryAt m c t.val).Y
      ∗ owns (c : Thread nD τ) uM fullShare (carryAt m c t.val).U
      ∗ owns (c : Thread nD τ) sM fullShare sc ∗ owns (c : Thread nD τ) bM fullShare b2
      ∗ owns (c : Thread nD τ) mM fullShare (carryAt m c t.val).M) : sProp 𝕄)
    ⊢ wp frame (wpE (defs₀ (F := F)) Variants.none (c : Thread nD τ) none) Set.univ (bodyAt0 t)
      (fun _ => iprop(owns (c : Thread nD τ) (zM t) fullShare (iblk m c 0 t) ∗ owns (c : Thread nD τ) (vM t) fullShare (iblk m c 1 t)
        ∗ owns (c : Thread nD τ) (hM t) fullShare (tileAt m c t) ∗ owns (c : Thread nD τ) yM fullShare (carryAt m c (t.val + 1)).Y
        ∗ owns (c : Thread nD τ) uM fullShare (carryAt m c (t.val + 1)).U
        ∗ (∃ d, owns (c : Thread nD τ) sM fullShare d) ∗ (∃ d, owns (c : Thread nD τ) bM fullShare d)
        ∗ owns (c : Thread nD τ) mM fullShare (carryAt m c (t.val + 1)).M)) := by
  have h := body_later (F := F) Variants.none c none Set.univ (grid0.coords t) (zM t) (hstage0_0 ((cfg0.slots t 0).cast nbuf0_0))
    (vM t) (hstage0_1 ((cfg0.slots t 1).cast nbuf0_1)) (hM t) (hstage0_2 ((cfg0.slots t 2).cast nbuf0_2))
    yM (Memref.isWhole_whole _) uM (Memref.isWhole_whole _) sM (Memref.isWhole_whole _) bM (Memref.isWhole_whole _)
    mM (Memref.isWhole_whole _) (fun h => h0 ((first_iff t).mp h)) ((later_iff t).mpr h0) (iblk m c 0 t) (iblk m c 1 t) H
    (carryAt m c t.val) sc b2
  rw [laterCarry_indep (iblk m c 1 t) (iblk m c 0 t) (carryAt m c t.val) H blankTile,
    laterRun_indep (iblk m c 1 t) (iblk m c 0 t) (carryAt m c t.val) H blankTile] at h
  rw [carryAt_succ]
  unfold tileAt tileOf carryOf
  rw [if_neg h0, if_neg h0]
  exact h

/-- The body at any point. -/
theorem sound_body (c : Dev nD) (t : Fin cfg0.N) :
    bodyPre m c t ⊢ wp frame (wpE (defs₀ (F := F)) Variants.none (c : Thread nD τ) none) Set.univ (bodyAt0 t)
      (fun _ => bodyPost m c t) := by
  unfold bodyPre bodyPost
  simp only [before0, before1]
  rw [show (dats m 0 c).owesAt () t.succ = (dats m 0 c).owesAt () t.castSucc from rfl, after0, after1, after2]
  rw [show (dats m 0 c).Φ t.succ = between c (carryAt m c (t.val + 1)) from rfl,
    show (dats m 0 c).Φ t.castSucc = PhiS m c t.val from rfl]
  unfold between
  by_cases h0 : t.val % 16 = 0
  · have key : PhiS m c t.val ⊢ (iprop(iprop((∃ d, owns (c : Thread nD τ) yM fullShare d) ∗ (∃ d, owns (c : Thread nD τ) uM fullShare d)
        ∗ (∃ d, owns (c : Thread nD τ) sM fullShare d) ∗ (∃ d, owns (c : Thread nD τ) bM fullShare d)
        ∗ (∃ d, owns (c : Thread nD τ) mM fullShare d)) ∗ (∃ r, prngReg c r)) : sProp 𝕄) := by
      by_cases hz : t.val = 0
      · rw [hz]
        exact (own_rest c).le
      · rw [PhiS_pos m c t.val hz]
        unfold between
        iintro ⟨⟨HY, HU, HS, HB, HM⟩, Hg⟩
        isplitl [HY HU HS HB HM]
        · isplitl [HY]
          · iexists _
            iexact HY
          isplitl [HU]
          · iexists _
            iexact HU
          isplitl [HS]
          · iexact HS
          isplitl [HB]
          · iexact HB
          iexists _
          iexact HM
        iexact Hg
    refine (sep_mono_left key).trans ?_
    iintro ⟨⟨⟨⟨%dY, HY⟩, ⟨%dU, HU⟩, ⟨%dS, HS⟩, ⟨%dB, HB⟩, ⟨%dM, HM⟩⟩, Hg⟩, Ho, ⟨%d0, H0⟩, ⟨%d1, H1⟩, ⟨%d2, H2⟩⟩
    iapply (wp_wand_r frame (wpE (defs₀ (F := F)) Variants.none (c : Thread nD τ) none) Set.univ)
    isplitl [H0 H1 H2 HY HU HS HB HM]
    · iapply (point_first m c t h0 ⟨dY, dU, dM⟩ _ dS dB)
      isplitl [H0]
      · iexact H0
      isplitl [H1]
      · iexact H1
      isplitl [H2]
      · iexact H2
      isplitl [HY]
      · iexact HY
      isplitl [HU]
      · iexact HU
      isplitl [HS]
      · iexact HS
      isplitl [HB]
      · iexact HB
      iexact HM
    iintro %u ⟨H0, H1, H2, HY, HU, HS, HB, HM⟩
    isplitl [HY HU HS HB HM Hg]
    · isplitl [HY HU HS HB HM]
      · isplitl [HY]
        · iexact HY
        isplitl [HU]
        · iexact HU
        isplitl [HS]
        · iexact HS
        isplitl [HB]
        · iexact HB
        iexact HM
      iexact Hg
    isplitl [Ho]
    · iexact Ho
    isplitl [H0]
    · iexact H0
    isplitl [H1]
    · iexact H1
    iexact H2
  · rw [PhiS_pos m c t.val (fun h => h0 (by rw [h]))]
    unfold between
    iintro ⟨⟨⟨HY, HU, ⟨%dS, HS⟩, ⟨%dB, HB⟩, HM⟩, Hg⟩, Ho, ⟨%d0, H0⟩, ⟨%d1, H1⟩, ⟨%d2, H2⟩⟩
    iapply (wp_wand_r frame (wpE (defs₀ (F := F)) Variants.none (c : Thread nD τ) none) Set.univ)
    isplitl [H0 H1 H2 HY HU HS HB HM]
    · iapply (point_later m c t h0 _ dS dB)
      isplitl [H0]
      · iexact H0
      isplitl [H1]
      · iexact H1
      isplitl [H2]
      · iexact H2
      isplitl [HY]
      · iexact HY
      isplitl [HU]
      · iexact HU
      isplitl [HS]
      · iexact HS
      isplitl [HB]
      · iexact HB
      iexact HM
    iintro %u ⟨H0, H1, H2, HY, HU, HS, HB, HM⟩
    isplitl [HY HU HS HB HM Hg]
    · isplitl [HY HU HS HB HM]
      · isplitl [HY]
        · iexact HY
        isplitl [HU]
        · iexact HU
        isplitl [HS]
        · iexact HS
        isplitl [HB]
        · iexact HB
        iexact HM
      iexact Hg
    isplitl [Ho]
    · iexact Ho
    isplitl [H0]
    · iexact H0
    isplitl [H1]
    · iexact H1
    iexact H2

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- Every point of the grid. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is the invariant before the first point. -/
theorem hin (c : Dev nD) : Pipeline.ΦA spec0 c ⊢ (dats m 0 c).Φ 0 := by
  rw [show (dats m 0 c).Φ 0 = Pipeline.ΦA spec0 c from rfl]

/-- After the last point the invariant gives it back. -/
theorem hout (c : Dev nD) : (dats m 0 c).Φ (Fin.last cfg0.N) ⊢ Pipeline.ΦA spec0 c := by
  rw [show (dats m 0 c).Φ (Fin.last cfg0.N) = PhiS m c cfg0.N from rfl,
    PhiS_pos m c cfg0.N (by rw [show cfg0.N = 32 from N_0]; decide), own_rest]
  unfold between
  iintro ⟨⟨HY, HU, HS, HB, HM⟩, Hg⟩
  isplitl [HY HU HS HB HM]
  · isplitl [HY]
    · iexists _
      iexact HY
    isplitl [HU]
    · iexists _
      iexact HU
    isplitl [HS]
    · iexact HS
    isplitl [HB]
    · iexact HB
    iexists _
    iexact HM
  iexact Hg

/-! ## The run -/

set_option backward.isDefEq.respectTransparency.types false in
set_option maxHeartbeats 800000 in
/-- Every run of the kernel ends with its arrays at the tiles the points wrote, with the host's lines done after them and
with every semaphore at zero. -/
theorem run_main : θ_run defs (onTc (τ := τ) (main (F := F))) (s₀ m ρ)
    (fun r => Pipeline.FramePost cfgs (dats m) 0 (Pipeline.afterTail₀ cfgs (dats m) 0 (V0 m) [hostOps1]) r
      ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- Every run of the kernel ends with its arguments unchanged and every semaphore at zero. -/
theorem kernel_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Idealize.ShloMosaic.θ_run_and (frame_of m ρ (dats m) (A_eq m) ((θ_run defs _ _).mono (fun _ h => h.1) (run_main m ρ)))
    ((θ_run defs _ _).mono (fun _ h => h.2) (run_main m ρ))

end Cert.Stat

end

end
-- ==== Proof.Frames.lean ====
module

public import proofs.«01_k».proof.Defs
public import proofs.«01_k».proof.Proof.Gen.Kernel
public import proofs.«01_k».proof.Proof.Same
public import proofs.«01_k».proof.Proof.Launch
public import proofs.«01_k».proof.Proof.Gen.ReferenceIdeal
public import proofs.«01_k».proof.Proof.Gen.ReferenceIdeal.Run

@[expose] public section

/-! The frames: each program ends without fault and leaves its arguments and counters as they were. -/

noncomputable section

namespace Cert.Proof

open Idealize.ShloMosaic Idealize.SL.Sem

/-- The kernel over the extended reals: its arguments and its counters after a run. -/
theorem frame_ki : Cert.quiescent_KernelIdeal := fun m ρ _ => Cert.Stat.kernel_frame m ρ

/-- The kernel at the machine's floats, which is the same program: its arguments and its counters after a run. -/
theorem frame_k : Cert.quiescent_Kernel := fun m ρ _ => by
  rw [same_defs, same_main]
  exact Cert.Stat.kernel_frame (F := Bits) m ρ

/-- The reference over the extended reals: its arguments and its counters after a run. -/
theorem frame_ri : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

end Cert.Proof

end

end
-- ==== Proof.Algebra.lean ====
module

public import Idealize.ShloMosaic.Lib.Pointwise
public import Idealize.ShloMosaic.Lib.IdealHost

@[expose] public section

/-! The memory as one recurrence over extended reals: the weights of the window, the windowed sum, the input of a step and
the memory after it; and the two ways of writing a step's input that the programs use. -/

noncomputable section

namespace Cert.Spec

open Idealize.ShloMosaic

/-- The sum of the first eight values, in order. -/
def sum8 {α : Type} [Add α] (f : ℕ → α) : α := f 0 + f 1 + f 2 + f 3 + f 4 + f 5 + f 6 + f 7

/-- The small constant, the 32-bit float nearest to 1e-6. -/
def eps : ℝ := 8796093 * (2 : ℝ) ^ (-43 : ℤ)

/-- The weight of the value `k` steps before step `t`. -/
def wraw (t k : ℕ) : ℝ := if k ≤ t then min ((t : ℝ) + 1) 8 - (1 + 2 * (k : ℝ)) else 0

/-- The weights' normaliser at step `t`. -/
def wnorm (t : ℕ) : ℝ := max (sum8 fun k => |wraw t k|) eps

/-- The value `k` steps before step `t`, zero before the sequence begins. -/
def past (f : ℕ → EReal) (t k : ℕ) : EReal := if k ≤ t then f (t - k) else 0

/-- The windowed sum of masked values at step `t`. -/
def total (v z : ℕ → EReal) (t : ℕ) : EReal := sum8 fun k => ((wraw t k : ℝ) : EReal) * past (fun s => v s * z s) t k

/-- The windowed sum of the mask at step `t`. -/
def mass (v : ℕ → EReal) (t : ℕ) : EReal := sum8 fun k => ((|wraw t k| : ℝ) : EReal) * past v t k

/-- The factor of the windowed sum at step `t`. -/
def gain (v : ℕ → EReal) (t : ℕ) : EReal :=
  Ideal.div (((1 / 2 : ℝ) : EReal) * v t) (max (mass v t) ((eps * wnorm t : ℝ) : EReal))

/-- What step `t` adds to the memory. -/
def inp (v z : ℕ → EReal) (t : ℕ) : EReal := gain v t * total v z t

/-- The share of the memory that step `t` keeps. -/
def fac (v : ℕ → EReal) (t : ℕ) : EReal := 1 - ((1 / 2 : ℝ) : EReal) * v t

/-- The memory before step `t`. -/
def mem (v z : ℕ → EReal) : ℕ → EReal
  | 0 => 0
  | t + 1 => fac v t * mem v z t + inp v z t

/-! ## Constants -/

/-- The smallest divisor is positive. -/
theorem eps_pos : 0 < eps := by unfold eps; positivity

/-- So is a step's normalizer. -/
theorem norm_pos (t : ℕ) : 0 < wnorm t := lt_of_lt_of_le eps_pos (le_max_right _ _)

/-- The word of the smallest divisor. -/
theorem ofBits_eps : Ideal.ofBits .f32 0x358637BD#32 = ((eps : ℝ) : EReal) := by
  simp [Ideal.ofBits, Ideal.ieee, eps, -EReal.coe_mul]

/-- The word of thirty-two smallest divisors is that number exactly. -/
theorem ofBits_eps32 : Ideal.ofBits .f32 0x380637BD#32 = ((eps * 32 : ℝ) : EReal) := by
  simp [Ideal.ofBits, Ideal.ieee, eps, -EReal.coe_mul]; norm_num

/-- The word of one half. -/
theorem ofBits_half : Ideal.ofBits .f32 0x3F000000#32 = ((1 / 2 : ℝ) : EReal) := by
  simp [Ideal.ofBits, Ideal.ieee, -EReal.coe_mul]; norm_num

/-- The word of two. -/
theorem ofBits_two : Ideal.ofBits .f32 0x40000000#32 = ((2 : ℝ) : EReal) := by
  simp [Ideal.ofBits, Ideal.ieee, -EReal.coe_mul]; norm_num
/-- The word of three. -/
theorem ofBits_three : Ideal.ofBits .f32 0x40400000#32 = ((3 : ℝ) : EReal) := by
  simp [Ideal.ofBits, Ideal.ieee, -EReal.coe_mul]; norm_num
/-- The word of four. -/
theorem ofBits_four : Ideal.ofBits .f32 0x40800000#32 = ((4 : ℝ) : EReal) := by
  simp [Ideal.ofBits, Ideal.ieee, -EReal.coe_mul]; norm_num
/-- The word of five. -/
theorem ofBits_five : Ideal.ofBits .f32 0x40A00000#32 = ((5 : ℝ) : EReal) := by
  simp [Ideal.ofBits, Ideal.ieee, -EReal.coe_mul]; norm_num
/-- The word of six. -/
theorem ofBits_six : Ideal.ofBits .f32 0x40C00000#32 = ((6 : ℝ) : EReal) := by
  simp [Ideal.ofBits, Ideal.ieee, -EReal.coe_mul]; norm_num
/-- The word of seven. -/
theorem ofBits_seven : Ideal.ofBits .f32 0x40E00000#32 = ((7 : ℝ) : EReal) := by
  simp [Ideal.ofBits, Ideal.ieee, -EReal.coe_mul]; norm_num
/-- The word of eight. -/
theorem ofBits_eight : Ideal.ofBits .f32 0x41000000#32 = ((8 : ℝ) : EReal) := by
  simp [Ideal.ofBits, Ideal.ieee, -EReal.coe_mul]; norm_num
/-- The word of nine. -/
theorem ofBits_nine : Ideal.ofBits .f32 0x41100000#32 = ((9 : ℝ) : EReal) := by
  simp [Ideal.ofBits, Ideal.ieee, -EReal.coe_mul]; norm_num
/-- The word of eleven. -/
theorem ofBits_eleven : Ideal.ofBits .f32 0x41300000#32 = ((11 : ℝ) : EReal) := by
  simp [Ideal.ofBits, Ideal.ieee, -EReal.coe_mul]; norm_num
/-- The word of thirteen. -/
theorem ofBits_thirteen : Ideal.ofBits .f32 0x41500000#32 = ((13 : ℝ) : EReal) := by
  simp [Ideal.ofBits, Ideal.ieee, -EReal.coe_mul]; norm_num
/-- The word of fifteen. -/
theorem ofBits_fifteen : Ideal.ofBits .f32 0x41700000#32 = ((15 : ℝ) : EReal) := by
  simp [Ideal.ofBits, Ideal.ieee, -EReal.coe_mul]; norm_num

/-! ## Sums -/

/-- A real factor that is not negative distributes over a sum of two extended reals. -/
theorem coe_mul_add {r : ℝ} (hr : 0 ≤ r) (x y : EReal) : (r : EReal) * (x + y) = r * x + r * y :=
  EReal.left_distrib_of_nonneg_of_ne_top (EReal.coe_nonneg.mpr hr) (EReal.coe_ne_top r) x y

/-- It distributes over a sum of eight. -/
theorem coe_mul_sum8 {r : ℝ} (hr : 0 ≤ r) (f : ℕ → EReal) : (r : EReal) * sum8 f = sum8 fun k => (r : EReal) * f k := by
  unfold sum8
  simp only [coe_mul_add hr]

/-- A sum of eight reals is the same in the extended reals. -/
theorem sum8_coe (f : ℕ → ℝ) : (sum8 fun k => ((f k : ℝ) : EReal)) = ((sum8 f : ℝ) : EReal) := by
  unfold sum8
  simp only [EReal.coe_add]

/-- Two sums of equal terms are equal. -/
theorem sum8_congr {α : Type} [Add α] {f g : ℕ → α} (h : ∀ k < 8, f k = g k) : sum8 f = sum8 g := by
  unfold sum8
  rw [h 0 (by omega), h 1 (by omega), h 2 (by omega), h 3 (by omega), h 4 (by omega), h 5 (by omega), h 6 (by omega), h 7 (by omega)]

/-- A sum of eight numbers none of which is negative is not negative. -/
theorem sum8_nonneg {f : ℕ → ℝ} (h : ∀ k, 0 ≤ f k) : 0 ≤ sum8 f := by
  unfold sum8
  linarith [h 0, h 1, h 2, h 3, h 4, h 5, h 6, h 7]

/-- A factor goes into a sum of eight. -/
theorem mul_sum8 (r : ℝ) (f : ℕ → ℝ) : r * sum8 f = sum8 fun k => r * f k := by
  unfold sum8
  ring

/-- The past of a product is the product of the pasts. -/
theorem past_mul (f g : ℕ → EReal) (t k : ℕ) : past (fun s => f s * g s) t k = past f t k * past g t k := by
  unfold past
  split
  · rfl
  · rw [zero_mul]

/-- A real mask's past is real. -/
theorem past_coe (r : ℕ → ℝ) (t k : ℕ) :
    past (fun s => ((r s : ℝ) : EReal)) t k = ((if k ≤ t then r (t - k) else 0 : ℝ) : EReal) := by
  unfold past
  split <;> rfl

/-- The larger of two reals is the same in the extended reals. -/
theorem coe_max (x y : ℝ) : ((max x y : ℝ) : EReal) = max (x : EReal) (y : EReal) :=
  EReal.coe_strictMono.monotone.map_max

/-! ## The reference's way of writing a step's input -/

/-- The reference's weight `k` steps before step `t`: normalised first. -/
def wn (t k : ℕ) : EReal := Ideal.div ((wraw t k : ℝ) : EReal) ((wnorm t : ℝ) : EReal)

/-- A normalized weight is the quotient of two real numbers. -/
theorem wn_eq (t k : ℕ) : wn t k = ((wraw t k / wnorm t : ℝ) : EReal) := by
  unfold wn
  rw [Ideal.div_coe (norm_pos t).ne', ← EReal.coe_mul]
  congr 1
  ring

/-- The reference's windowed sum is the windowed sum over the normaliser. -/
theorem ref_num (r : ℕ → ℝ) (z : ℕ → EReal) (t : ℕ) :
    (sum8 fun k => wn t k * past (fun s => ((r s : ℝ) : EReal)) t k * past z t k)
      = ((1 / wnorm t : ℝ) : EReal) * total (fun s => ((r s : ℝ) : EReal)) z t := by
  unfold total
  rw [coe_mul_sum8 (by have := norm_pos t; positivity)]
  refine sum8_congr fun k _ => ?_
  rw [wn_eq, past_mul, ← mul_assoc, ← mul_assoc]
  congr 2
  rw [← EReal.coe_mul]
  congr 1
  ring

/-- The mask's windowed sum is real. -/
theorem mass_coe (r : ℕ → ℝ) (t : ℕ) :
    mass (fun s => ((r s : ℝ) : EReal)) t = ((sum8 fun k => |wraw t k| * (if k ≤ t then r (t - k) else 0) : ℝ) : EReal) := by
  unfold mass
  rw [← sum8_coe]
  refine sum8_congr fun k _ => ?_
  rw [past_coe, ← EReal.coe_mul]

/-- The reference's windowed sum of the mask is the windowed sum over the normaliser. -/
theorem ref_den (r : ℕ → ℝ) (hr : ∀ s, 0 ≤ r s) (t : ℕ) :
    (sum8 fun k => max (past (fun s => ((r s : ℝ) : EReal)) t k * wn t k) (-(past (fun s => ((r s : ℝ) : EReal)) t k * wn t k)))
      = ((1 / wnorm t * sum8 fun k => |wraw t k| * (if k ≤ t then r (t - k) else 0) : ℝ) : EReal) := by
  rw [mul_sum8, ← sum8_coe]
  refine sum8_congr fun k _ => ?_
  have h0 : (0 : ℝ) ≤ if k ≤ t then r (t - k) else 0 := by
    split
    · exact hr _
    · exact le_rfl
  rw [past_coe, wn_eq, ← EReal.coe_mul, ← EReal.coe_neg, ← coe_max]
  congr 1
  rw [← abs_eq_max_neg, abs_mul, abs_of_nonneg h0, abs_div, abs_of_pos (norm_pos t)]
  ring

/-- THE REFERENCE'S STEP: its input is the specification's. -/
theorem ref_inp (r : ℕ → ℝ) (hr : ∀ s, 0 ≤ r s) (z : ℕ → EReal) (t : ℕ) :
    ((1 / 2 : ℝ) : EReal) * ((r t : ℝ) : EReal)
      * Ideal.div (sum8 fun k => wn t k * past (fun s => ((r s : ℝ) : EReal)) t k * past z t k)
          (max (sum8 fun k => max (past (fun s => ((r s : ℝ) : EReal)) t k * wn t k) (-(past (fun s => ((r s : ℝ) : EReal)) t k * wn t k)))
            ((eps : ℝ) : EReal))
      = inp (fun s => ((r s : ℝ) : EReal)) z t := by
  unfold inp gain
  rw [ref_num, ref_den r hr, mass_coe]
  generalize total (fun s => ((r s : ℝ) : EReal)) z t = S
  generalize (sum8 fun k => |wraw t k| * (if k ≤ t then r (t - k) else 0) : ℝ) = m
  have hN := norm_pos t
  generalize wnorm t = N at hN
  have he := eps_pos
  have hM : 0 < max m (eps * N) := lt_of_lt_of_le (mul_pos he hN) (le_max_right _ _)
  have e1 : max (1 / N * m) eps = max m (eps * N) / N := by
    rw [← max_div_div_right hN.le]
    congr 1
    · ring
    · field_simp
  rw [← coe_max, ← coe_max, e1, ← EReal.coe_mul, Ideal.div_coe hM.ne',
    Ideal.div_coe (div_pos hM hN).ne', ← EReal.coe_mul, mul_comm (((1 / N : ℝ) : EReal)) S, mul_assoc S, ← EReal.coe_mul,
    mul_comm S, ← mul_assoc, ← EReal.coe_mul]
  congr 2
  field_simp

/-! ## The later tiles' way of writing a step's input -/

/-- A difference scaled by a real that is not negative is the sum of the two with opposite weights. -/
theorem coe_mul_sub {r : ℝ} (hr : 0 ≤ r) (x y : EReal) : (r : EReal) * (x - y) = r * x + ((-r : ℝ) : EReal) * y := by
  rw [sub_eq_add_neg, coe_mul_add hr, EReal.coe_neg, mul_neg, neg_mul]

/-- A difference, as a sum with factors one and minus one. -/
theorem one_sub (x y : EReal) : x - y = ((1 : ℝ) : EReal) * x + ((-1 : ℝ) : EReal) * y := by
  have := coe_mul_sub (zero_le_one) x y
  rw [← this, EReal.coe_one, one_mul]

/-- From the eighth step on the weights are 7, 5, 3, 1 and their negatives, -/
theorem wraw_late {t k : ℕ} (ht : 7 ≤ t) (hk : k < 8) : wraw t k = 7 - 2 * (k : ℝ) := by
  unfold wraw
  have h7 : (7 : ℝ) ≤ (t : ℝ) := by exact_mod_cast ht
  rw [if_pos (by omega), min_eq_right (by linarith)]
  ring

/-- and the normaliser is 32. -/
theorem norm_late {t : ℕ} (ht : 7 ≤ t) : wnorm t = 32 := by
  unfold wnorm
  have h : (sum8 fun k => |wraw t k|) = 32 := by
    rw [sum8_congr (g := fun k => |7 - 2 * (k : ℝ)|) (fun k hk => by rw [wraw_late ht hk])]
    unfold sum8
    norm_num [abs_of_nonneg, abs_of_neg]
  rw [h, max_eq_left]
  unfold eps
  norm_num

/-- The later tiles' windowed sum is the windowed sum. -/
theorem late_total (v z : ℕ → EReal) {t : ℕ} (ht : 7 ≤ t) (y : ℕ → EReal) (hy : ∀ k < 8, y k = past (fun s => v s * z s) t k) :
    ((7 : ℝ) : EReal) * (y 0 - y 7) + ((5 : ℝ) : EReal) * (y 1 - y 6) + ((3 : ℝ) : EReal) * (y 2 - y 5) + (y 3 - y 4)
      = total v z t := by
  unfold total
  rw [sum8_congr (g := fun k => ((7 - 2 * (k : ℝ) : ℝ) : EReal) * y k) (fun k hk => by rw [wraw_late ht hk, hy k hk])]
  rw [coe_mul_sub (by norm_num), coe_mul_sub (by norm_num), coe_mul_sub (by norm_num), one_sub]
  unfold sum8
  norm_num only
  ac_nf

/-- The later tiles' windowed sum of the mask is the windowed sum. -/
theorem late_mass (r : ℕ → ℝ) {t : ℕ} (ht : 7 ≤ t) (u : ℕ → EReal) (hu : ∀ k < 8, u k = past (fun s => ((r s : ℝ) : EReal)) t k) :
    ((7 : ℝ) : EReal) * (u 0 + u 7) + ((5 : ℝ) : EReal) * (u 1 + u 6) + ((3 : ℝ) : EReal) * (u 2 + u 5) + (u 3 + u 4)
      = mass (fun s => ((r s : ℝ) : EReal)) t := by
  rw [mass_coe, sum8_congr (g := fun k => |7 - 2 * (k : ℝ)| * (if k ≤ t then r (t - k) else 0)) (fun k hk => by rw [wraw_late ht hk])]
  rw [hu 0 (by omega), hu 1 (by omega), hu 2 (by omega), hu 3 (by omega), hu 4 (by omega), hu 5 (by omega), hu 6 (by omega), hu 7 (by omega)]
  simp only [past_coe, ← EReal.coe_add, ← EReal.coe_mul]
  have h : ∀ k < 8, (if k ≤ t then r (t - k) else 0) = r (t - k) := fun k hk => if_pos (by omega)
  rw [sum8_congr (g := fun k => |7 - 2 * (k : ℝ)| * r (t - k)) (fun k hk => by rw [h k hk])]
  rw [h 0 (by omega), h 1 (by omega), h 2 (by omega), h 3 (by omega), h 4 (by omega), h 5 (by omega), h 6 (by omega), h 7 (by omega)]
  congr 1
  unfold sum8
  norm_num [abs_of_nonneg, abs_of_neg]
  ring

/-! ## The memory's share -/

/-- A mask between 0 and 2 keeps a share between 0 and 1, which distributes over sums. -/
theorem fac_distrib (r : ℕ → ℝ) (hr : ∀ s, r s ≤ 2) (t : ℕ) (x y : EReal) :
    fac (fun s => ((r s : ℝ) : EReal)) t * (x + y)
      = fac (fun s => ((r s : ℝ) : EReal)) t * x + fac (fun s => ((r s : ℝ) : EReal)) t * y := by
  unfold fac
  rw [show (1 : EReal) - ((1 / 2 : ℝ) : EReal) * ((r t : ℝ) : EReal) = ((1 - 1 / 2 * r t : ℝ) : EReal) by
    rw [← EReal.coe_mul, ← EReal.coe_one, ← EReal.coe_sub]]
  exact coe_mul_add (by linarith [hr t]) x y

end Cert.Spec

end

end
-- ==== Proof.Rows.lean ====
module

public import proofs.«01_k».proof.Proof.Carried
public import proofs.«01_k».proof.Proof.Boxes
public import proofs.«01_k».proof.Proof.Algebra

@[expose] public section

/-! The extended rows of a tile: which earlier masked value each of them holds. -/

set_option maxRecDepth 16384
set_option maxHeartbeats 1000000

noncomputable section

namespace Cert.Stat

open Cert.KernelIdeal Cert.KernelIdeal.Gen
open Idealize.ShloMosaic Cert.Spec

/-- A masked row, element by element. -/
theorem pay43_at (v : Vec Ideal S4x128x8 .f32) (z : Vec Ideal S4x128x8x256 .f32) (b : Fin 4) (r : Fin 128) (j : Fin 8) (d : Fin 256) :
    k0_pay43 (F := Ideal) v z (ix4 b r j d) = v (ix3 b r j) * z (ix4 b r j d) := by
  pointwise [k0_pay43, k0_pay41]

/-- A mask row, element by element. -/
theorem pay42_at (v : Vec Ideal S4x128x8 .f32) (b : Fin 4) (r : Fin 128) (j : Fin 8) :
    k0_pay42 (F := Ideal) v (ix4 b r j 0) = v (ix3 b r j) := by
  pointwise [k0_pay42, k0_pay41]

/-- The zeros of a row's first tile. -/
theorem pay38_at (b : Fin 4) (r : Fin 8) (j : Fin 8) (d : Fin 256) : k0_pay38 (F := Ideal) (ix4 b r j d) = 0 := by
  pointwise [k0_pay38]

/-- And of its mask. -/
theorem pay39_at (b : Fin 4) (r : Fin 8) (j : Fin 8) : k0_pay39 (F := Ideal) (ix4 b r j 0) = 0 := by
  pointwise [k0_pay39]

/-- The rows kept for the next tile are kept as they are. -/
theorem pay1_at (x : Vec Ideal S4x8x8x256 .f32) (b : Fin 4) (r : Fin 8) (j : Fin 8) (d : Fin 256) :
    k0_pay1 (F := Ideal) x (ix4 b r j d) = x (ix4 b r j d) := by
  pointwise [k0_pay1]

/-- And the mask's. -/
theorem pay2_at (x : Vec Ideal S4x8x8x1 .f32) (b : Fin 4) (r : Fin 8) (j : Fin 8) :
    k0_pay2 (F := Ideal) x (ix4 b r j 0) = x (ix4 b r j 0) := by
  pointwise [k0_pay2]

/-- An extended row past the eighth is a masked row of the tile. -/
theorem inRows_new (v : Vec Ideal S4x128x8 .f32) (z : Vec Ideal S4x128x8x256 .f32) (Y : Vec Ideal S4x136x8x256 .f32) (b : Fin 4)
    (r : Fin 128) (j : Fin 8) (d : Fin 256) :
    inRows v z Y (ix4 b ⟨8 + r.val, by omega⟩ j d) = v (ix3 b r j) * z (ix4 b r j d) := by
  unfold inRows
  rw [patch_in (ix4 b r j d) (by exact all4 (Nat.zero_add _).symm rfl (Nat.zero_add _).symm (Nat.zero_add _).symm), pay43_at]

/-- The first eight extended rows are the ones carried. -/
theorem inRows_old (v : Vec Ideal S4x128x8 .f32) (z : Vec Ideal S4x128x8x256 .f32) (Y : Vec Ideal S4x136x8x256 .f32) (b : Fin 4)
    (r : Fin 136) (hr : r.val < 8) (j : Fin 8) (d : Fin 256) : inRows v z Y (ix4 b r j d) = Y (ix4 b r j d) := by
  unfold inRows
  exact patch_out 1 (Or.inl hr)

/-- The same for the mask. -/
theorem inMask_new (v : Vec Ideal S4x128x8 .f32) (U : Vec Ideal S4x136x8x1 .f32) (b : Fin 4) (r : Fin 128) (j : Fin 8) :
    inMask v U (ix4 b ⟨8 + r.val, by omega⟩ j 0) = v (ix3 b r j) := by
  unfold inMask
  rw [patch_in (ix4 b r j 0) (by exact all4 (Nat.zero_add _).symm rfl (Nat.zero_add _).symm rfl), pay42_at]

/-- And its first eight rows. -/
theorem inMask_old (v : Vec Ideal S4x128x8 .f32) (U : Vec Ideal S4x136x8x1 .f32) (b : Fin 4)
    (r : Fin 136) (hr : r.val < 8) (j : Fin 8) : inMask v U (ix4 b r j 0) = U (ix4 b r j 0) := by
  unfold inMask
  exact patch_out 1 (Or.inl hr)

/-- The first eight rows of a row's first tile are zero. -/
theorem zeroRows_at (Y : Vec Ideal S4x136x8x256 .f32) (b : Fin 4) (r : Fin 136) (hr : r.val < 8) (j : Fin 8) (d : Fin 256) :
    zeroRows Y (ix4 b r j d) = 0 := by
  unfold zeroRows
  rw [patch_in (ix4 b ⟨r.val, hr⟩ j d) (by exact all4 (Nat.zero_add _).symm (Nat.zero_add _).symm (Nat.zero_add _).symm (Nat.zero_add _).symm), pay38_at]

/-- And those of its mask. -/
theorem zeroMask_at (U : Vec Ideal S4x136x8x1 .f32) (b : Fin 4) (r : Fin 136) (hr : r.val < 8) (j : Fin 8) :
    zeroMask U (ix4 b r j 0) = 0 := by
  unfold zeroMask
  rw [patch_in (ix4 b ⟨r.val, hr⟩ j 0) (by exact all4 (Nat.zero_add _).symm (Nat.zero_add _).symm (Nat.zero_add _).symm rfl), pay39_at]

/-- The eight rows carried on are the last eight. -/
theorem keepRows_at (Y : Vec Ideal S4x136x8x256 .f32) (b : Fin 4) (r : Fin 136) (hr : r.val < 8) (j : Fin 8) (d : Fin 256) :
    keepRows Y (ix4 b r j d) = Y (ix4 b ⟨128 + r.val, by omega⟩ j d) := by
  unfold keepRows
  rw [patch_in (ix4 b ⟨r.val, hr⟩ j d) (by exact all4 (Nat.zero_add _).symm (Nat.zero_add _).symm (Nat.zero_add _).symm (Nat.zero_add _).symm), pay1_at]
  exact window_at _ (by exact all4 (Nat.zero_add _).symm rfl (Nat.zero_add _).symm (Nat.zero_add _).symm)

/-- And so for the mask. -/
theorem keepMask_at (U : Vec Ideal S4x136x8x1 .f32) (b : Fin 4) (r : Fin 136) (hr : r.val < 8) (j : Fin 8) :
    keepMask U (ix4 b r j 0) = U (ix4 b ⟨128 + r.val, by omega⟩ j 0) := by
  unfold keepMask
  rw [patch_in (ix4 b ⟨r.val, hr⟩ j 0) (by exact all4 (Nat.zero_add _).symm (Nat.zero_add _).symm (Nat.zero_add _).symm rfl), pay2_at]
  exact window_at _ (by exact all4 (Nat.zero_add _).symm rfl (Nat.zero_add _).symm rfl)

/-- Extended row `r` of tile `q` is the value eight steps before step `128 q + r`. -/
theorem ext_of (q : ℕ) (f : ℕ → EReal) (E : Fin 136 → EReal) (hold : ∀ r : Fin 136, r.val < 8 → E r = past f (128 * q + r.val) 8)
    (hnew : ∀ r : Fin 128, E ⟨8 + r.val, by omega⟩ = f (128 * q + r.val)) (r : Fin 136) : E r = past f (128 * q + r.val) 8 := by
  by_cases h : r.val < 8
  · exact hold r h
  · have h1 : r = ⟨8 + (⟨r.val - 8, by omega⟩ : Fin 128).val, by simp only; omega⟩ := Fin.ext (by simp only; omega)
    rw [h1, hnew]
    unfold past
    rw [if_pos (by simp only; omega)]
    congr 1
    simp only
    omega

/-- Seen from step `128 q + p`, extended row `p + 8 - k` is the value `k` steps before. -/
theorem past_ext (q p k : ℕ) (hk : k ≤ 8) (n : ℕ) (hn : n + k = p + 8) (f : ℕ → EReal) :
    past f (128 * q + n) 8 = past f (128 * q + p) k := by
  unfold past
  by_cases h : k ≤ 128 * q + p
  · rw [if_pos (by omega), if_pos h]
    congr 1
    omega
  · rw [if_neg (by omega), if_neg h]

end Cert.Stat

end

end
-- ==== Proof.FirstTile.lean ====
module

public import proofs.«01_k».proof.Proof.Rows

@[expose] public section

/-! The first tile of a row and the later tiles: their scales and windowed sums, element by element. -/

set_option maxRecDepth 16384
set_option maxHeartbeats 1000000

noncomputable section

namespace Cert.Stat

open Cert.KernelIdeal Cert.KernelIdeal.Gen
open Idealize.ShloMosaic Cert.Spec

/-- The row's number. -/
theorem pay3_at (p : Fin 128) : k0_pay3 (F := Ideal) (ix4 0 p 0 0) = ((p.val : ℝ) : EReal) := by
  pointwise [k0_pay3]
  show (((BitVec.ofNat 32 p.val).toInt : ℝ) : EReal) = _
  rw [show (BitVec.ofNat 32 p.val).toInt = (p.val : ℤ) by
    rw [BitVec.toInt_eq_toNat_of_lt (by rw [BitVec.toNat_ofNat]; omega), BitVec.toNat_ofNat, Nat.mod_eq_of_lt (by omega)]]
  norm_cast

/-- The window's length at that row. -/
theorem pay4_at (p : Fin 128) : k0_pay4 (F := Ideal) (ix4 0 p 0 0) = ((min ((p.val : ℝ) + 1) 8 : ℝ) : EReal) := by
  pointwise [k0_pay4]
  rw [pay3_at, ofBits_eight, ← EReal.coe_one, ← EReal.coe_add]
  exact (EReal.coe_strictMono.monotone.map_min).symm

/-- A weight as the kernel selects it. -/
theorem raw_if (p k : ℕ) (x y c1 c2 : EReal) (hx : x = ((p : ℝ) : EReal)) (hy : y = ((min ((p : ℝ) + 1) 8 : ℝ) : EReal))
    (h1 : c1 = ((k : ℝ) : EReal)) (h2 : c2 = ((1 + 2 * (k : ℝ) : ℝ) : EReal)) :
    (if c1 ≤ x then y - c2 else 0) = ((wraw p k : ℝ) : EReal) := by
  subst hx hy h1 h2
  unfold wraw
  by_cases h : k ≤ p
  · rw [if_pos (EReal.coe_le_coe_iff.mpr (by exact_mod_cast h)), if_pos h, ← EReal.coe_sub]
  · rw [if_neg (fun hc => h (by exact_mod_cast EReal.coe_le_coe_iff.mp hc)), if_neg h, EReal.coe_zero]

/-- A weight's modulus as the kernel takes it. -/
theorem raw_abs (x : ℝ) : max (x : EReal) (-(x : EReal)) = ((|x| : ℝ) : EReal) := by
  rw [← EReal.coe_neg, ← coe_max, ← abs_eq_max_neg]

/-- The weight 0 steps back. -/
theorem weight0 (p : Fin 128) : k0_pay5 (F := Ideal) (ix4 0 p 0 0) = ((wraw p.val 0 : ℝ) : EReal) := by
  pointwise [k0_pay5]
  exact raw_if p.val 0 _ _ _ _ (pay3_at p) (pay4_at p) (EReal.coe_zero.symm.trans (by norm_num)) (EReal.coe_one.symm.trans (by norm_num))

/-- And its modulus. -/
theorem modulus0 (p : Fin 128) : k0_pay6 (F := Ideal) (ix4 0 p 0 0) = ((|wraw p.val 0| : ℝ) : EReal) := by
  pointwise [k0_pay6]
  rw [weight0]
  exact raw_abs _

/-- The weight 1 steps back. -/
theorem weight1 (p : Fin 128) : k0_pay7 (F := Ideal) (ix4 0 p 0 0) = ((wraw p.val 1 : ℝ) : EReal) := by
  pointwise [k0_pay7]
  exact raw_if p.val 1 _ _ _ _ (pay3_at p) (pay4_at p) (EReal.coe_one.symm.trans (by norm_num)) (ofBits_three.trans (by norm_num))

/-- And its modulus. -/
theorem modulus1 (p : Fin 128) : k0_pay8 (F := Ideal) (ix4 0 p 0 0) = ((|wraw p.val 1| : ℝ) : EReal) := by
  pointwise [k0_pay8]
  rw [weight1]
  exact raw_abs _

/-- The weight 2 steps back. -/
theorem weight2 (p : Fin 128) : k0_pay12 (F := Ideal) (ix4 0 p 0 0) = ((wraw p.val 2 : ℝ) : EReal) := by
  pointwise [k0_pay12]
  exact raw_if p.val 2 _ _ _ _ (pay3_at p) (pay4_at p) (ofBits_two.trans (by norm_num)) (ofBits_five.trans (by norm_num))

/-- And its modulus. -/
theorem modulus2 (p : Fin 128) : k0_pay13 (F := Ideal) (k0_pay12 (F := Ideal)) (ix4 0 p 0 0) = ((|wraw p.val 2| : ℝ) : EReal) := by
  pointwise [k0_pay13]
  rw [weight2]
  exact raw_abs _

/-- The weight 3 steps back. -/
theorem weight3 (p : Fin 128) : k0_pay14 (F := Ideal) (k0_pay3 (F := Ideal)) (k0_pay4 (F := Ideal)) (ix4 0 p 0 0) = ((wraw p.val 3 : ℝ) : EReal) := by
  pointwise [k0_pay14]
  exact raw_if p.val 3 _ _ _ _ (pay3_at p) (pay4_at p) (ofBits_three.trans (by norm_num)) (ofBits_seven.trans (by norm_num))

/-- And its modulus. -/
theorem modulus3 (p : Fin 128) : k0_pay15 (F := Ideal) (k0_pay3 (F := Ideal)) (k0_pay4 (F := Ideal)) (ix4 0 p 0 0) = ((|wraw p.val 3| : ℝ) : EReal) := by
  pointwise [k0_pay15]
  rw [weight3]
  exact raw_abs _

/-- The weight 4 steps back. -/
theorem weight4 (p : Fin 128) : k0_pay16 (F := Ideal) (k0_pay3 (F := Ideal)) (k0_pay4 (F := Ideal)) (ix4 0 p 0 0) = ((wraw p.val 4 : ℝ) : EReal) := by
  pointwise [k0_pay16]
  exact raw_if p.val 4 _ _ _ _ (pay3_at p) (pay4_at p) (ofBits_four.trans (by norm_num)) (ofBits_nine.trans (by norm_num))

/-- And its modulus. -/
theorem modulus4 (p : Fin 128) : k0_pay17 (F := Ideal) (k0_pay3 (F := Ideal)) (k0_pay4 (F := Ideal)) (ix4 0 p 0 0) = ((|wraw p.val 4| : ℝ) : EReal) := by
  pointwise [k0_pay17]
  rw [weight4]
  exact raw_abs _

/-- The weight 5 steps back. -/
theorem weight5 (p : Fin 128) : k0_pay21 (F := Ideal) (k0_pay3 (F := Ideal)) (k0_pay4 (F := Ideal)) (ix4 0 p 0 0) = ((wraw p.val 5 : ℝ) : EReal) := by
  pointwise [k0_pay21]
  exact raw_if p.val 5 _ _ _ _ (pay3_at p) (pay4_at p) (ofBits_five.trans (by norm_num)) (ofBits_eleven.trans (by norm_num))

/-- And its modulus. -/
theorem modulus5 (p : Fin 128) : k0_pay22 (F := Ideal) (k0_pay3 (F := Ideal)) (k0_pay4 (F := Ideal)) (ix4 0 p 0 0) = ((|wraw p.val 5| : ℝ) : EReal) := by
  pointwise [k0_pay22]
  rw [weight5]
  exact raw_abs _

/-- The weight 6 steps back. -/
theorem weight6 (p : Fin 128) : k0_pay23 (F := Ideal) (k0_pay3 (F := Ideal)) (k0_pay4 (F := Ideal)) (ix4 0 p 0 0) = ((wraw p.val 6 : ℝ) : EReal) := by
  pointwise [k0_pay23]
  exact raw_if p.val 6 _ _ _ _ (pay3_at p) (pay4_at p) (ofBits_six.trans (by norm_num)) (ofBits_thirteen.trans (by norm_num))

/-- And its modulus. -/
theorem modulus6 (p : Fin 128) : k0_pay24 (F := Ideal) (k0_pay3 (F := Ideal)) (k0_pay4 (F := Ideal)) (ix4 0 p 0 0) = ((|wraw p.val 6| : ℝ) : EReal) := by
  pointwise [k0_pay24]
  rw [weight6]
  exact raw_abs _

/-- The weight 7 steps back. -/
theorem weight7 (p : Fin 128) : k0_pay28 (F := Ideal) (k0_pay3 (F := Ideal)) (k0_pay4 (F := Ideal)) (ix4 0 p 0 0) = ((wraw p.val 7 : ℝ) : EReal) := by
  pointwise [k0_pay28]
  exact raw_if p.val 7 _ _ _ _ (pay3_at p) (pay4_at p) (ofBits_seven.trans (by norm_num)) (ofBits_fifteen.trans (by norm_num))

/-- And its modulus. -/
theorem modulus7 (p : Fin 128) : k0_pay29 (F := Ideal) (k0_pay3 (F := Ideal)) (k0_pay4 (F := Ideal)) (ix4 0 p 0 0) = ((|wraw p.val 7| : ℝ) : EReal) := by
  pointwise [k0_pay29]
  rw [weight7]
  exact raw_abs _

/-- The windowed sum of the first tile, all but its last term. -/
theorem firstSum7_at (Y : Vec Ideal S4x136x8x256 .f32) (b : Fin 4) (p : Fin 128) (j : Fin 8) (d : Fin 256) :
    firstSum7 (F := Ideal) Y (ix4 b p j d)
      = ((wraw p.val 0 : ℝ) : EReal) * Y (ix4 b ⟨8 + p.val, by omega⟩ j d) + ((wraw p.val 1 : ℝ) : EReal) * Y (ix4 b ⟨7 + p.val, by omega⟩ j d) + ((wraw p.val 2 : ℝ) : EReal) * Y (ix4 b ⟨6 + p.val, by omega⟩ j d) + ((wraw p.val 3 : ℝ) : EReal) * Y (ix4 b ⟨5 + p.val, by omega⟩ j d) + ((wraw p.val 4 : ℝ) : EReal) * Y (ix4 b ⟨4 + p.val, by omega⟩ j d) + ((wraw p.val 5 : ℝ) : EReal) * Y (ix4 b ⟨3 + p.val, by omega⟩ j d) + ((wraw p.val 6 : ℝ) : EReal) * Y (ix4 b ⟨2 + p.val, by omega⟩ j d) := by
  have hw : ∀ (o : ℕ) {i : ∀ a, (![0, o, 0, 0] : Fin 4 → ℕ) a + S4x128x8x256.size a ≤ S4x136x8x256.size a} (n : Fin 136), n.val = o + p.val →
      window Y ![0, o, 0, 0] ![4, 128, 8, 256] i (ix4 b p j d) = Y (ix4 b n j d) := fun o _ n hn =>
    window_at (ix4 b n j d) (by exact all4 (Nat.zero_add _).symm hn (Nat.zero_add _).symm (Nat.zero_add _).symm)
  unfold firstSum7 firstSum5
  pointwise [k0_pay25, k0_pay18, k0_pay9]
  rw [weight0, weight1, weight2, weight3, weight4, weight5, weight6]
  rw [hw 8 ⟨8 + p.val, by omega⟩ rfl, hw 7 ⟨7 + p.val, by omega⟩ rfl, hw 6 ⟨6 + p.val, by omega⟩ rfl, hw 5 ⟨5 + p.val, by omega⟩ rfl, hw 4 ⟨4 + p.val, by omega⟩ rfl, hw 3 ⟨3 + p.val, by omega⟩ rfl, hw 2 ⟨2 + p.val, by omega⟩ rfl]

/-- The windowed sum of the first tile's mask, all but its last term. -/
theorem firstMask7_at (U : Vec Ideal S4x136x8x1 .f32) (b : Fin 4) (p : Fin 128) (j : Fin 8) :
    firstMask7 (F := Ideal) U (ix4 b p j 0)
      = ((|wraw p.val 0| : ℝ) : EReal) * U (ix4 b ⟨8 + p.val, by omega⟩ j 0) + ((|wraw p.val 1| : ℝ) : EReal) * U (ix4 b ⟨7 + p.val, by omega⟩ j 0) + ((|wraw p.val 2| : ℝ) : EReal) * U (ix4 b ⟨6 + p.val, by omega⟩ j 0) + ((|wraw p.val 3| : ℝ) : EReal) * U (ix4 b ⟨5 + p.val, by omega⟩ j 0) + ((|wraw p.val 4| : ℝ) : EReal) * U (ix4 b ⟨4 + p.val, by omega⟩ j 0) + ((|wraw p.val 5| : ℝ) : EReal) * U (ix4 b ⟨3 + p.val, by omega⟩ j 0) + ((|wraw p.val 6| : ℝ) : EReal) * U (ix4 b ⟨2 + p.val, by omega⟩ j 0) := by
  unfold firstMask7
  pointwise [k0_pay26, k0_pay19, k0_pay10]
  rw [modulus0, modulus1, modulus2, modulus3, modulus4, modulus5, modulus6]

/-- The sum of the weights' moduli, all but its last term. -/
theorem firstNorm7_at (p : Fin 128) :
    firstNorm7 (F := Ideal) (ix4 0 p 0 0)
      = ((|wraw p.val 0| : ℝ) : EReal) + ((|wraw p.val 1| : ℝ) : EReal) + ((|wraw p.val 2| : ℝ) : EReal) + ((|wraw p.val 3| : ℝ) : EReal) + ((|wraw p.val 4| : ℝ) : EReal) + ((|wraw p.val 5| : ℝ) : EReal) + ((|wraw p.val 6| : ℝ) : EReal) := by
  unfold firstNorm7
  pointwise [k0_pay27, k0_pay20, k0_pay11]
  rw [modulus0, modulus1, modulus2, modulus3, modulus4, modulus5, modulus6]

/-- The mask as the scale reads it. -/
theorem pay41_at (v : Vec Ideal S4x128x8 .f32) (b : Fin 4) (p : Fin 128) (j : Fin 8) :
    k0_pay41 (F := Ideal) v (ix4 b p j 0) = v (ix3 b p j) := by
  pointwise [k0_pay41]

/-- The first tile's scale is the specification's, if the extended mask holds the earlier masks. -/
theorem scale44_at (v : Vec Ideal S4x128x8 .f32) (U : Vec Ideal S4x136x8x1 .f32) (b : Fin 4) (p : Fin 128) (j : Fin 8)
    (f : ℕ → EReal) (hv : v (ix3 b p j) = f p.val)
    (hU : ∀ k < 8, ∀ n : Fin 136, n.val + k = p.val + 8 → U (ix4 b n j 0) = past f p.val k) :
    k0_pay44 (F := Ideal) v U (firstMask7 U) firstNorm7 (k0_pay29 (k0_pay3 (F := Ideal)) (k0_pay4 (F := Ideal))) (ix4 b p j 0)
      = gain f p.val := by
  pointwise [k0_pay44]
  rw [pay41_at, firstMask7_at, firstNorm7_at, modulus7, ofBits_half, ofBits_eps, hv]
  rw [hU 0 (by omega) ⟨8 + p.val, by omega⟩ (by simp only; omega), hU 1 (by omega) ⟨7 + p.val, by omega⟩ (by simp only; omega), hU 2 (by omega) ⟨6 + p.val, by omega⟩ (by simp only; omega), hU 3 (by omega) ⟨5 + p.val, by omega⟩ (by simp only; omega), hU 4 (by omega) ⟨4 + p.val, by omega⟩ (by simp only; omega), hU 5 (by omega) ⟨3 + p.val, by omega⟩ (by simp only; omega), hU 6 (by omega) ⟨2 + p.val, by omega⟩ (by simp only; omega), hU 7 (by omega) ⟨1 + p.val, by omega⟩ (by simp only; omega)]
  unfold gain mass wnorm sum8
  simp only [EReal.coe_mul, coe_max, EReal.coe_add]

/-- The first tile's scale is the specification's. -/
theorem firstScale_at (v : Vec Ideal S4x128x8 .f32) (U : Vec Ideal S4x136x8x1 .f32) (b : Fin 4) (p : Fin 128) (j : Fin 8)
    (f : ℕ → EReal) (hv : v (ix3 b p j) = f p.val)
    (hU : ∀ k < 8, ∀ n : Fin 136, n.val + k = p.val + 8 → U (ix4 b n j 0) = past f p.val k) :
    firstScale (F := Ideal) v U (ix4 b p j 0) = gain f p.val := by
  unfold firstScale
  pointwise [k0_pay45]
  exact scale44_at v U b p j f hv hU

/-- The first tile's inputs are the specification's, if the extended rows hold the earlier masked values. -/
theorem firstTile_at (v : Vec Ideal S4x128x8 .f32) (U : Vec Ideal S4x136x8x1 .f32) (Y : Vec Ideal S4x136x8x256 .f32) (b : Fin 4)
    (p : Fin 128) (j : Fin 8) (d : Fin 256) (f g : ℕ → EReal) (hv : v (ix3 b p j) = f p.val)
    (hU : ∀ k < 8, ∀ n : Fin 136, n.val + k = p.val + 8 → U (ix4 b n j 0) = past f p.val k)
    (hY : ∀ k < 8, ∀ n : Fin 136, n.val + k = p.val + 8 → Y (ix4 b n j d) = past (fun s => f s * g s) p.val k) :
    firstTile (F := Ideal) v U Y (ix4 b p j d) = inp f g p.val := by
  have hw : window Y ![0, 1, 0, 0] S4x128x8x256.size inb_S4x136x8x256_S4x128x8x256_0_1_0_0 (ix4 b p j d)
      = Y (ix4 b ⟨1 + p.val, by omega⟩ j d) :=
    window_at (ix4 b ⟨1 + p.val, by omega⟩ j d) (by exact all4 (Nat.zero_add _).symm rfl (Nat.zero_add _).symm (Nat.zero_add _).symm)
  unfold firstTile
  pointwise [k0_pay46]
  rw [scale44_at v U b p j f hv hU, firstSum7_at, weight7]
  rw [show window Y ![0, 1, 0, 0] ![4, 128, 8, 256] inb_S4x136x8x256_S4x128x8x256_0_1_0_0 (ix4 b p j d) = _ from hw]
  rw [hY 0 (by omega) ⟨8 + p.val, by omega⟩ (by simp only; omega), hY 1 (by omega) ⟨7 + p.val, by omega⟩ (by simp only; omega), hY 2 (by omega) ⟨6 + p.val, by omega⟩ (by simp only; omega), hY 3 (by omega) ⟨5 + p.val, by omega⟩ (by simp only; omega), hY 4 (by omega) ⟨4 + p.val, by omega⟩ (by simp only; omega), hY 5 (by omega) ⟨3 + p.val, by omega⟩ (by simp only; omega), hY 6 (by omega) ⟨2 + p.val, by omega⟩ (by simp only; omega), hY 7 (by omega) ⟨1 + p.val, by omega⟩ (by simp only; omega)]
  rfl

/-- A later tile's scale is the specification's. -/
theorem laterScale_at (v : Vec Ideal S4x128x8 .f32) (U : Vec Ideal S4x136x8x1 .f32) (b : Fin 4) (p : Fin 128) (j : Fin 8)
    (t : ℕ) (ht : 7 ≤ t) (r : ℕ → ℝ) (hv : v (ix3 b p j) = ((r t : ℝ) : EReal))
    (hU : ∀ k < 8, ∀ n : Fin 136, n.val + k = p.val + 8 → U (ix4 b n j 0) = past (fun s => ((r s : ℝ) : EReal)) t k) :
    k0_pay47 (F := Ideal) v U (ix4 b p j 0) = gain (fun s => ((r s : ℝ) : EReal)) t := by
  pointwise [k0_pay47]
  rw [pay41_at, ofBits_half, ofBits_seven, ofBits_five, ofBits_three, ofBits_eps32, hv]
  rw [hU 0 (by omega) ⟨8 + p.val, by omega⟩ (by simp only; omega), hU 1 (by omega) ⟨7 + p.val, by omega⟩ (by simp only; omega), hU 2 (by omega) ⟨6 + p.val, by omega⟩ (by simp only; omega), hU 3 (by omega) ⟨5 + p.val, by omega⟩ (by simp only; omega), hU 4 (by omega) ⟨4 + p.val, by omega⟩ (by simp only; omega), hU 5 (by omega) ⟨3 + p.val, by omega⟩ (by simp only; omega), hU 6 (by omega) ⟨2 + p.val, by omega⟩ (by simp only; omega), hU 7 (by omega) ⟨1 + p.val, by omega⟩ (by simp only; omega)]
  unfold gain
  rw [norm_late ht, late_mass r ht (fun k => past (fun s => ((r s : ℝ) : EReal)) t k) (fun _ _ => rfl)]

/-- A later tile's inputs are the specification's. -/
theorem laterTile_at (Y : Vec Ideal S4x136x8x256 .f32) (sc : Vec Ideal S4x128x8x1 .f32) (b : Fin 4)
    (p : Fin 128) (j : Fin 8) (d : Fin 256) (f g : ℕ → EReal) (t : ℕ) (ht : 7 ≤ t) (hs : sc (ix4 b p j 0) = gain f t)
    (hY : ∀ k < 8, ∀ n : Fin 136, n.val + k = p.val + 8 → Y (ix4 b n j d) = past (fun s => f s * g s) t k) :
    chunkVal (F := Ideal) Y sc b p j d = inp f g t := by
  unfold chunkVal inp
  rw [hs]
  rw [hY 0 (by omega) ⟨p.val + 8, by omega⟩ rfl, hY 1 (by omega) ⟨p.val + 7, by omega⟩ rfl, hY 2 (by omega) ⟨p.val + 6, by omega⟩ rfl, hY 3 (by omega) ⟨p.val + 5, by omega⟩ rfl, hY 4 (by omega) ⟨p.val + 4, by omega⟩ rfl, hY 5 (by omega) ⟨p.val + 3, by omega⟩ rfl, hY 6 (by omega) ⟨p.val + 2, by omega⟩ rfl, hY 7 (by omega) ⟨p.val + 1, by omega⟩ rfl]
  rw [← late_total f g ht (fun k => past (fun s => f s * g s) t k) (fun _ _ => rfl), ← ofBits_seven, ← ofBits_five, ← ofBits_three]
  rfl

/-- What the recurrence keeps of the memory is the specification's share. -/
theorem rest_at (U : Vec Ideal S4x136x8x1 .f32) (b : Fin 4) (p : Fin 128) (j : Fin 8) (f : ℕ → EReal) (t : ℕ)
    (hU : U (ix4 b ⟨8 + p.val, by omega⟩ j 0) = f t) : rest (F := Ideal) U (ix4 b p j 0) = fac f t := by
  unfold rest
  pointwise [k0_pay49]
  rw [hU, ofBits_half]
  rfl

/-- The memory a row of the grid starts from is zero. -/
theorem pay40_at (b : Fin 4) (j : Fin 8) (d : Fin 256) : k0_pay40 (F := Ideal) (ix3 b j d) = 0 := by
  pointwise [k0_pay40]

/-- The memory carried on is carried as it is. -/
theorem pay59_at (x : Vec Ideal S4x8x256 .f32) (b : Fin 4) (j : Fin 8) (d : Fin 256) : k0_pay59 (F := Ideal) x (ix3 b j d) = x (ix3 b j d) := by
  pointwise [k0_pay59]

end Cert.Stat

end

end
-- ==== Proof.PairValues.lean ====
module

public import proofs.«01_k».proof.Proof.Tile
public import proofs.«01_k».proof.Proof.Boxes
public import Idealize.ShloMosaic.Lib.Pointwise

@[expose] public section

/-! The loop over pairs of rows, element by element. -/

set_option maxRecDepth 16384
set_option maxHeartbeats 1000000

noncomputable section

namespace Cert.Stat

open Cert.KernelIdeal Cert.KernelIdeal.Gen
open Idealize.ShloMosaic

/-- The product of a pair's factors, element by element. -/
theorem pay53_at (a : FVec Ideal S4x128x8x1 .f32) (b : Fin 4) (k : Fin 64) (j : Fin 8) :
    k0_pay53 (F := Ideal) a (ix4 b k j 0) = a (ix4 b ⟨k.val * 2 + 1, by omega⟩ j 0) * a (ix4 b ⟨k.val * 2, by omega⟩ j 0) := by
  pointwise [k0_pay53, k0_pay52, k0_pay51, k0_pay50]

/-- An even row's factor, element by element. -/
theorem pay54_at (a : FVec Ideal S4x128x8x1 .f32) (b : Fin 4) (k : Fin 64) (j : Fin 8) :
    k0_pay54 (F := Ideal) a (ix4 b k j 0) = a (ix4 b ⟨k.val * 2, by omega⟩ j 0) := by
  pointwise [k0_pay54, k0_pay51, k0_pay50]

/-- A pair's combined input, element by element. -/
theorem pay55_at (a : FVec Ideal S4x128x8x1 .f32) (H : Vec Ideal S4x128x8x256 .f32) (b : Fin 4) (k : Fin 64) (j : Fin 8) (d : Fin 256) :
    k0_pay55 (F := Ideal) a H (ix4 b k j d)
      = a (ix4 b ⟨k.val * 2 + 1, by omega⟩ j 0) * H (ix4 b ⟨k.val * 2, by omega⟩ j d) + H (ix4 b ⟨k.val * 2 + 1, by omega⟩ j d) := by
  pointwise [k0_pay55, k0_pay52, k0_pay51, k0_pay50]

/-- The even member's step, element by element. -/
theorem pay56_at (acc : Vec Ideal S4x8x256 .f32) (A : Vec Ideal S4x1x8x1 .f32) (X : Vec Ideal S4x1x8x256 .f32) (b : Fin 4)
    (j : Fin 8) (d : Fin 256) :
    k0_pay56 (F := Ideal) acc A X (ix4 b 0 j d) = A (ix4 b 0 j 0) * acc (ix3 b j d) + X (ix4 b 0 j d) := by
  pointwise [k0_pay56]

/-- The pair's step, element by element. -/
theorem pay57_at (acc : Vec Ideal S4x8x256 .f32) (A : Vec Ideal S4x1x8x1 .f32) (X : Vec Ideal S4x1x8x256 .f32) (b : Fin 4)
    (j : Fin 8) (d : Fin 256) :
    k0_pay57 (F := Ideal) acc A X (ix3 b j d) = A (ix4 b 0 j 0) * acc (ix3 b j d) + X (ix4 b 0 j d) := by
  pointwise [k0_pay57]

/-- The pair's step as it is stored, element by element. -/
theorem pay58_at (acc : Vec Ideal S4x8x256 .f32) (A : Vec Ideal S4x1x8x1 .f32) (X : Vec Ideal S4x1x8x256 .f32) (b : Fin 4)
    (j : Fin 8) (d : Fin 256) :
    k0_pay58 (F := Ideal) acc A X (ix4 b 0 j d) = A (ix4 b 0 j 0) * acc (ix3 b j d) + X (ix4 b 0 j d) := by
  pointwise [k0_pay58, k0_pay57]

end Cert.Stat

end

end
-- ==== Proof.Recurrence.lean ====
module

public import proofs.«01_k».proof.Proof.PairValues

@[expose] public section

/-! The recurrence of the memory, two steps at a time. -/

set_option maxRecDepth 16384
set_option maxHeartbeats 1000000

noncomputable section

namespace Cert.Stat

open Cert.KernelIdeal Cert.KernelIdeal.Gen
open Idealize.ShloMosaic

/-- The second loop runs over 64 pairs. -/
theorem trips2 : k0_t2_loop.trips = 64 := by decide +kernel

/-- The products of the pairs' factors are the first 64 rows of the loop's factors, -/
theorem pairFactors_lo (a sc : Vec Ideal S4x128x8x1 .f32) (b : Fin 4) (k : Fin 64) (j : Fin 8) :
    pairFactors a sc (ix4 b ⟨k.val, by omega⟩ j 0)
      = a (ix4 b ⟨k.val * 2 + 1, by omega⟩ j 0) * a (ix4 b ⟨k.val * 2, by omega⟩ j 0) := by
  unfold pairFactors
  rw [patch_out 1 (Or.inl (by exact (by omega : k.val < 64))),
    patch_in (ix4 b k j 0) (by exact all4 (Nat.zero_add _).symm (Nat.zero_add _).symm (Nat.zero_add _).symm rfl), pay53_at]

/-- and the even rows' factors the last 64. -/
theorem pairFactors_hi (a sc : Vec Ideal S4x128x8x1 .f32) (b : Fin 4) (k : Fin 64) (j : Fin 8) :
    pairFactors a sc (ix4 b ⟨64 + k.val, by omega⟩ j 0) = a (ix4 b ⟨k.val * 2, by omega⟩ j 0) := by
  unfold pairFactors
  rw [patch_in (ix4 b k j 0) (by exact all4 (Nat.zero_add _).symm rfl (Nat.zero_add _).symm rfl), pay54_at]

/-- The carried row after a pair, element by element. -/
theorem pairCarry_at (A : Vec Ideal S4x128x8x1 .f32) (B : Vec Ideal S4x64x8x256 .f32) (k : Fin k0_t2_loop.trips) (n : Fin 64)
    (hn : n.val = k.val) (acc : Vec Ideal S4x8x256 .f32) (b : Fin 4) (j : Fin 8) (d : Fin 256) :
    pairCarry A B k acc (ix3 b j d) = A (ix4 b ⟨n.val, by omega⟩ j 0) * acc (ix3 b j d) + B (ix4 b n j d) := by
  unfold pairCarry
  rw [pay57_at,
    window_at (ix4 b ⟨n.val, by omega⟩ j 0) (by
      rw [k0_off15_eq]
      exact all4 (Nat.zero_add _).symm hn (Nat.zero_add _).symm rfl),
    window_at (ix4 b n j d) (by
      rw [k0_off16_eq]
      exact all4 (Nat.zero_add _).symm hn (Nat.zero_add _).symm (Nat.zero_add _).symm)]

/-- The output tile after a pair: the pair's even row, -/
theorem pairRows_even (A : Vec Ideal S4x128x8x1 .f32) (B : Vec Ideal S4x64x8x256 .f32) (k : Fin k0_t2_loop.trips) (n : Fin 64)
    (hn : n.val = k.val) (acc : Vec Ideal S4x8x256 .f32) (X : Vec Ideal S4x128x8x256 .f32) (b : Fin 4) (j : Fin 8) (d : Fin 256) :
    pairRows A B k acc X (ix4 b ⟨n.val * 2, by omega⟩ j d)
      = A (ix4 b ⟨64 + n.val, by omega⟩ j 0) * acc (ix3 b j d) + X (ix4 b ⟨n.val * 2, by omega⟩ j d) := by
  unfold pairRows
  rw [patch_out 1 (Or.inl (by
      rw [k0_off17_eq]
      exact (by omega : n.val * 2 < 2 * k.val + 1))),
    patch_in (ix4 b 0 j d) (by
      rw [k0_off14_eq]
      exact all4 (Nat.zero_add _).symm (by exact (by omega : n.val * 2 = 2 * k.val)) (Nat.zero_add _).symm (Nat.zero_add _).symm),
    pay56_at,
    window_at (ix4 b ⟨64 + n.val, by omega⟩ j 0) (by
      rw [k0_off13_eq]
      exact all4 (Nat.zero_add _).symm (by exact (by omega : 64 + n.val = k.val + 64)) (Nat.zero_add _).symm rfl),
    window_at (ix4 b ⟨n.val * 2, by omega⟩ j d) (by
      rw [k0_off14_eq]
      exact all4 (Nat.zero_add _).symm (by exact (by omega : n.val * 2 = 2 * k.val)) (Nat.zero_add _).symm (Nat.zero_add _).symm)]

/-- its odd row, -/
theorem pairRows_odd (A : Vec Ideal S4x128x8x1 .f32) (B : Vec Ideal S4x64x8x256 .f32) (k : Fin k0_t2_loop.trips) (n : Fin 64)
    (hn : n.val = k.val) (acc : Vec Ideal S4x8x256 .f32) (X : Vec Ideal S4x128x8x256 .f32) (b : Fin 4) (j : Fin 8) (d : Fin 256) :
    pairRows A B k acc X (ix4 b ⟨n.val * 2 + 1, by omega⟩ j d)
      = A (ix4 b ⟨n.val, by omega⟩ j 0) * acc (ix3 b j d) + B (ix4 b n j d) := by
  unfold pairRows
  rw [patch_in (ix4 b 0 j d) (by
      rw [k0_off17_eq]
      exact all4 (Nat.zero_add _).symm (by exact (by omega : n.val * 2 + 1 = 2 * k.val + 1)) (Nat.zero_add _).symm (Nat.zero_add _).symm),
    pay58_at,
    window_at (ix4 b ⟨n.val, by omega⟩ j 0) (by
      rw [k0_off15_eq]
      exact all4 (Nat.zero_add _).symm hn (Nat.zero_add _).symm rfl),
    window_at (ix4 b n j d) (by
      rw [k0_off16_eq]
      exact all4 (Nat.zero_add _).symm hn (Nat.zero_add _).symm (Nat.zero_add _).symm)]

/-- and every other row as it was. -/
theorem pairRows_out (A : Vec Ideal S4x128x8x1 .f32) (B : Vec Ideal S4x64x8x256 .f32) (k : Fin k0_t2_loop.trips)
    (acc : Vec Ideal S4x8x256 .f32) (X : Vec Ideal S4x128x8x256 .f32) (b : Fin 4) (p : Fin 128) (j : Fin 8) (d : Fin 256)
    (hp : p.val < 2 * k.val ∨ 2 * k.val + 2 ≤ p.val) :
    pairRows A B k acc X (ix4 b p j d) = X (ix4 b p j d) := by
  unfold pairRows
  rw [patch_out 1 (by
      rw [k0_off17_eq]
      exact (by omega : p.val < 2 * k.val + 1 ∨ 2 * k.val + 1 + 1 ≤ p.val)),
    patch_out 1 (by
      rw [k0_off14_eq]
      exact (by omega : p.val < 2 * k.val ∨ 2 * k.val + 1 ≤ p.val))]

section

variable (a sc : Vec Ideal S4x128x8x1 .f32) (H : Vec Ideal S4x128x8x256 .f32) (M : Vec Ideal S4x8x256 .f32)
  (b : Fin 4) (j : Fin 8) (d : Fin 256) (α h μ : ℕ → EReal)

/-- Before pair `k` the carried row is the recurrence at row `2k`, the rows below `2k` hold the recurrence after them and
the rest still hold the inputs. -/
theorem pairsAt_spec (hα : ∀ p : Fin 128, a (ix4 b p j 0) = α p.val) (hH : ∀ p : Fin 128, H (ix4 b p j d) = h p.val)
    (h0 : M (ix3 b j d) = μ 0) (hs : ∀ p < 128, μ (p + 1) = α p * μ p + h p)
    (hd : ∀ p < 128, ∀ x y : EReal, α p * (x + y) = α p * x + α p * y) :
    ∀ k : ℕ, k ≤ 64 →
      (pairsAt (pairFactors a sc) (k0_pay55 (F := Ideal) a H) M H k).1 (ix3 b j d) = μ (2 * k)
      ∧ (∀ p : Fin 128, p.val < 2 * k →
          (pairsAt (pairFactors a sc) (k0_pay55 (F := Ideal) a H) M H k).2 (ix4 b p j d) = μ (p.val + 1))
      ∧ (∀ p : Fin 128, 2 * k ≤ p.val →
          (pairsAt (pairFactors a sc) (k0_pay55 (F := Ideal) a H) M H k).2 (ix4 b p j d) = h p.val) := by
  intro k
  induction k with
  | zero => exact fun _ => ⟨h0, fun p hp => absurd hp (by omega), fun p _ => hH p⟩
  | succ k ih =>
    intro hk
    obtain ⟨i1, i2, i3⟩ := ih (by omega)
    have hk' : k < k0_t2_loop.trips := by rw [trips2]; omega
    have hs0 : μ (2 * k + 1) = α (k * 2) * μ (2 * k) + h (k * 2) := by
      rw [Nat.mul_comm k 2]
      exact hs (2 * k) (by omega)
    have hs1 : μ (2 * (k + 1)) = α (k * 2 + 1) * μ (2 * k + 1) + h (k * 2 + 1) := by
      rw [Nat.mul_comm k 2]
      exact hs (2 * k + 1) (by omega)
    have step : pairFactors a sc (ix4 b ⟨k, by omega⟩ j 0) * μ (2 * k) + k0_pay55 (F := Ideal) a H (ix4 b ⟨k, by omega⟩ j d)
        = μ (2 * (k + 1)) := by
      have e1 := pairFactors_lo a sc b ⟨k, by omega⟩ j
      rw [e1, pay55_at, hα, hα, hH, hH, hs1, hs0, hd (k * 2 + 1) (by omega), mul_assoc, add_assoc]
    have e := pairsAt_succ (pairFactors a sc) (k0_pay55 (F := Ideal) a H) M H ⟨k, hk'⟩
    rw [show (⟨k, hk'⟩ : Fin k0_t2_loop.trips).val = k from rfl] at e
    rw [e]
    have hk1 : k * 2 + 1 < 128 := by omega
    have hk0 : k * 2 < 128 := by omega
    dsimp only
    refine ⟨?_, fun p hp => ?_, fun p hp => ?_⟩
    · rw [pairCarry_at _ _ ⟨k, hk'⟩ ⟨k, by omega⟩ rfl, i1]
      exact step
    · by_cases h1 : p.val < 2 * k
      · rw [pairRows_out _ _ ⟨k, hk'⟩ _ _ b p j d (Or.inl h1)]
        exact i2 p h1
      · by_cases h2 : p.val = 2 * k
        · have e2 := pairRows_even (pairFactors a sc) (k0_pay55 (F := Ideal) a H) ⟨k, hk'⟩ ⟨k, by omega⟩ rfl
            (pairsAt (pairFactors a sc) (k0_pay55 (F := Ideal) a H) M H k).1
            (pairsAt (pairFactors a sc) (k0_pay55 (F := Ideal) a H) M H k).2 b j d
          have ep : p = ⟨k * 2, hk0⟩ := Fin.ext (by simp only; omega)
          have e3 := pairFactors_hi a sc b ⟨k, by omega⟩ j
          subst ep
          refine e2.trans ?_
          rw [e3, hα, i1, i3 _ h2.ge]
          simp only
          rw [show k * 2 + 1 = 2 * k + 1 by omega]
          exact hs0.symm
        · have ep : p = ⟨k * 2 + 1, hk1⟩ := Fin.ext (by simp only; omega)
          have e2 := pairRows_odd (pairFactors a sc) (k0_pay55 (F := Ideal) a H) ⟨k, hk'⟩ ⟨k, by omega⟩ rfl
            (pairsAt (pairFactors a sc) (k0_pay55 (F := Ideal) a H) M H k).1
            (pairsAt (pairFactors a sc) (k0_pay55 (F := Ideal) a H) M H k).2 b j d
          subst ep
          refine e2.trans ?_
          rw [i1]
          refine step.trans (congrArg μ ?_)
          simp only
          omega
    · rw [pairRows_out _ _ ⟨k, hk'⟩ _ _ b p j d (Or.inr (by simp only; omega))]
      exact i3 p (by omega)

/-- The second loop computes the recurrence: each row of its output tile is the recurrence after that row, and the row it
carries out is the recurrence at the tile's end. -/
theorem recurred_spec (hα : ∀ p : Fin 128, a (ix4 b p j 0) = α p.val) (hH : ∀ p : Fin 128, H (ix4 b p j d) = h p.val)
    (h0 : M (ix3 b j d) = μ 0) (hs : ∀ p < 128, μ (p + 1) = α p * μ p + h p)
    (hd : ∀ p < 128, ∀ x y : EReal, α p * (x + y) = α p * x + α p * y) :
    (∀ p : Fin 128, (recurred a sc H M).2 (ix4 b p j d) = μ (p.val + 1)) ∧ (recurred a sc H M).1 (ix3 b j d) = μ 128 := by
  unfold recurred
  rw [trips2]
  obtain ⟨i1, i2, -⟩ := pairsAt_spec a sc H M b j d α h μ hα hH h0 hs hd 64 le_rfl
  exact ⟨fun p => i2 p (by omega), i1⟩

end

end Cert.Stat

end

end
-- ==== Proof.Result.lean ====
module

public import proofs.«01_k».proof.Proof.Algebra

@[expose] public section

/-! The two results, as functions of the two argument arrays. -/

noncomputable section

namespace Cert.Spec

open Idealize.ShloMosaic

/-- The mask's index. -/
abbrev MaskIdx : Type := (⟨3, ![8, 2048, 8]⟩ : Shape).Idx
/-- The values' index. -/
abbrev ValIdx : Type := (⟨4, ![8, 2048, 8, 256]⟩ : Shape).Idx

/-- A real mask as a mask of extended reals. -/
abbrev ext (r : ℕ → ℝ) : ℕ → EReal := fun s => ((r s : ℝ) : EReal)

/-- The mask of column `j` of batch row `b` over time, as reals; zero past its end. -/
def maskOf (V : MaskIdx → EReal) (b : Fin 8) (j : Fin 8) : ℕ → ℝ :=
  fun s => if h : s < 2048 then (V (ix3 b ⟨s, h⟩ j)).toReal else 0

/-- The values of column `(j, d)` of batch row `b` over time; zero past their end. -/
def seriesOf (Z : ValIdx → EReal) (b : Fin 8) (j : Fin 8) (d : Fin 256) : ℕ → EReal :=
  fun s => if h : s < 2048 then Z (ix4 b ⟨s, h⟩ j d) else 0

/-- The memory of column `(j, d)` of batch row `b` before step `t`. -/
def memOf (V : MaskIdx → EReal) (Z : ValIdx → EReal) (b : Fin 8) (j : Fin 8) (d : Fin 256) (t : ℕ) : EReal :=
  mem (ext (maskOf V b j)) (seriesOf Z b j d) t

/-- The first result: the memory after every step. -/
def history (V : MaskIdx → EReal) (Z : ValIdx → EReal) : ValIdx → EReal :=
  fun i => memOf V Z (i 0) (i 2) (i 3) ((i 1).val + 1)

/-- The second result: the memory after the last step. -/
def last (V : MaskIdx → EReal) (Z : ValIdx → EReal) : (⟨3, ![8, 8, 256]⟩ : Shape).Idx → EReal :=
  fun i => memOf V Z (i 0) (i 1) (i 2) 2048

/-- The mask's entries lie between 0 and 2. -/
def Good (V : MaskIdx → EReal) : Prop := ∀ i, 0 ≤ V i ∧ V i ≤ ((2 : ℝ) : EReal)

/-- A good entry is a real between 0 and 2. -/
theorem real_of_good {x : EReal} (h : 0 ≤ x ∧ x ≤ ((2 : ℝ) : EReal)) : ((x.toReal : ℝ) : EReal) = x ∧ 0 ≤ x.toReal ∧ x.toReal ≤ 2 := by
  have ht : x ≠ ⊤ := fun e => by
    rw [e] at h
    exact absurd (top_le_iff.mp h.2) (EReal.coe_ne_top 2)
  have hb : x ≠ ⊥ := fun e => by
    rw [e] at h
    exact absurd (le_bot_iff.mp h.1) EReal.zero_ne_bot
  have e := EReal.coe_toReal ht hb
  refine ⟨e, ?_, ?_⟩
  · rw [← e] at h
    exact_mod_cast h.1
  · rw [← e] at h
    exact_mod_cast h.2

variable {V : MaskIdx → EReal} (hV : Good V)
include hV

/-- A good mask over time is not negative, -/
theorem maskOf_nonneg (b j : Fin 8) (s : ℕ) : 0 ≤ maskOf V b j s := by
  unfold maskOf
  split
  · exact (real_of_good (hV _)).2.1
  · exact le_rfl

/-- is at most two, -/
theorem maskOf_le (b j : Fin 8) (s : ℕ) : maskOf V b j s ≤ 2 := by
  unfold maskOf
  split
  · exact (real_of_good (hV _)).2.2
  · norm_num

/-- and is the array's entry. -/
theorem ext_maskOf (b j : Fin 8) (s : Fin 2048) : ext (maskOf V b j) s.val = V (ix3 b s j) := by
  show ((maskOf V b j s.val : ℝ) : EReal) = _
  unfold maskOf
  rw [dif_pos s.isLt]
  exact (real_of_good (hV _)).1

omit hV in
/-- The values over time are the array's entries. -/
theorem seriesOf_at (Z : ValIdx → EReal) (b j : Fin 8) (d : Fin 256) (s : Fin 2048) : seriesOf Z b j d s.val = Z (ix4 b s j d) := by
  unfold seriesOf
  rw [dif_pos s.isLt]

end Cert.Spec

end

end
-- ==== Proof.Steps.lean ====
module

public import proofs.«01_k».proof.Proof.FirstTile
public import proofs.«01_k».proof.Proof.Recurrence
public import proofs.«01_k».proof.Proof.Result

@[expose] public section

/-! One tile of the kernel, seen at one batch row and one column of the memory: from what it is entered with to the rows it
writes and what it carries on. -/

set_option maxRecDepth 16384
set_option maxHeartbeats 1000000

noncomputable section

namespace Cert.Stat

open Cert.KernelIdeal Cert.KernelIdeal.Gen
open Idealize.ShloMosaic Cert.Spec

/-- What is carried into tile `q` at column `(j, d)` of batch row `b`: the last eight masked values, the last eight masks and the memory
before the tile's first step. -/
structure Holds (r : ℕ → ℝ) (g : ℕ → EReal) (q : ℕ) (b : Fin 4) (j : Fin 8) (d : Fin 256) (C : Carry Ideal) : Prop where
  Y : ∀ n : Fin 136, n.val < 8 → C.Y (ix4 b n j d) = past (fun s => ext r s * g s) (128 * q + n.val) 8
  U : ∀ n : Fin 136, n.val < 8 → C.U (ix4 b n j 0) = past (ext r) (128 * q + n.val) 8
  M : C.M (ix3 b j d) = mem (ext r) g (128 * q)

/-- The rows a tile writes: the memory after each of its steps. -/
def Writes (r : ℕ → ℝ) (g : ℕ → EReal) (q : ℕ) (b : Fin 4) (j : Fin 8) (d : Fin 256) (H : Vec Ideal S4x128x8x256 .f32) : Prop :=
  ∀ p : Fin 128, H (ix4 b p j d) = mem (ext r) g (128 * q + p.val + 1)

/-- The recurrence over a tile, from its shares and its inputs. -/
theorem run_spec (r : ℕ → ℝ) (hr : ∀ s, r s ≤ 2) (g : ℕ → EReal) (q : ℕ) (b : Fin 4) (j : Fin 8) (d : Fin 256)
    (a : FVec Ideal S4x128x8x1 .f32) (sc : Vec Ideal S4x128x8x1 .f32) (H : Vec Ideal S4x128x8x256 .f32) (M : Vec Ideal S4x8x256 .f32)
    (hα : ∀ p : Fin 128, a (ix4 b p j 0) = fac (ext r) (128 * q + p.val))
    (hH : ∀ p : Fin 128, H (ix4 b p j d) = inp (ext r) g (128 * q + p.val)) (hM : M (ix3 b j d) = mem (ext r) g (128 * q)) :
    Writes r g q b j d (recurred a sc H M).2 ∧ (recurred a sc H M).1 (ix3 b j d) = mem (ext r) g (128 * (q + 1)) := by
  have h := recurred_spec a sc H M b j d (fun p => fac (ext r) (128 * q + p)) (fun p => inp (ext r) g (128 * q + p))
    (fun p => mem (ext r) g (128 * q + p)) hα hH hM (fun p _ => rfl) (fun p _ x y => fac_distrib r hr _ x y)
  exact ⟨h.1, h.2⟩

/-- The masks and values that the extended rows of a tile hold. -/
theorem rows_spec (r : ℕ → ℝ) (g : ℕ → EReal) (q : ℕ) (b : Fin 4) (j : Fin 8) (d : Fin 256) (v : Vec Ideal S4x128x8 .f32)
    (z : Vec Ideal S4x128x8x256 .f32) (Y : Vec Ideal S4x136x8x256 .f32) (U : Vec Ideal S4x136x8x1 .f32)
    (hv : ∀ p : Fin 128, v (ix3 b p j) = ext r (128 * q + p.val)) (hz : ∀ p : Fin 128, z (ix4 b p j d) = g (128 * q + p.val))
    (hY : ∀ n : Fin 136, n.val < 8 → Y (ix4 b n j d) = past (fun s => ext r s * g s) (128 * q + n.val) 8)
    (hU : ∀ n : Fin 136, n.val < 8 → U (ix4 b n j 0) = past (ext r) (128 * q + n.val) 8) :
    (∀ n : Fin 136, inRows v z Y (ix4 b n j d) = past (fun s => ext r s * g s) (128 * q + n.val) 8)
      ∧ (∀ n : Fin 136, inMask v U (ix4 b n j 0) = past (ext r) (128 * q + n.val) 8) :=
  ⟨ext_of q (fun s => ext r s * g s) (fun n => inRows v z Y (ix4 b n j d)) (fun n hn => (inRows_old v z Y b n hn j d).trans (hY n hn))
      (fun p => (inRows_new v z Y b p j d).trans (by rw [hv, hz])),
    ext_of q (ext r) (fun n => inMask v U (ix4 b n j 0)) (fun n hn => (inMask_old v U b n hn j).trans (hU n hn))
      (fun p => (inMask_new v U b p j).trans (hv p))⟩

/-- The last eight extended rows are the ones the next tile begins with. -/
theorem kept (q : ℕ) (f : ℕ → EReal) (n : ℕ) : past f (128 * q + (128 + n)) 8 = past f (128 * (q + 1) + n) 8 := by
  rw [show 128 * q + (128 + n) = 128 * (q + 1) + n by omega]

/-- A ROW'S FIRST TILE: whatever is carried into it, it writes the memory after each of its steps and carries on what the next tile needs. -/
theorem first_step (r : ℕ → ℝ) (hr : ∀ s, r s ≤ 2) (g : ℕ → EReal) (b : Fin 4) (j : Fin 8) (d : Fin 256) (v : Vec Ideal S4x128x8 .f32)
    (z : Vec Ideal S4x128x8x256 .f32) (C : Carry Ideal)
    (hv : ∀ p : Fin 128, v (ix3 b p j) = ext r (128 * 0 + p.val)) (hz : ∀ p : Fin 128, z (ix4 b p j d) = g (128 * 0 + p.val)) :
    Writes r g 0 b j d (firstRun v z C).2 ∧ Holds r g 1 b j d (firstCarry v z C) := by
  have hp : ∀ (f : ℕ → EReal) (n : Fin 136), n.val < 8 → past f (128 * 0 + n.val) 8 = 0 := fun f n hn => if_neg (by omega)
  obtain ⟨hY, hU⟩ := rows_spec r g 0 b j d v z (zeroRows C.Y) (zeroMask C.U) hv hz
    (fun n hn => (zeroRows_at C.Y b n hn j d).trans (hp _ n hn).symm) (fun n hn => (zeroMask_at C.U b n hn j).trans (hp _ n hn).symm)
  have hU' : ∀ p : Fin 128, ∀ k < 8, ∀ n : Fin 136, n.val + k = p.val + 8 →
      inMask v (zeroMask C.U) (ix4 b n j 0) = past (ext r) p.val k := fun p k hk n hn => by
    rw [hU n, past_ext 0 p.val k (by omega) n.val hn, Nat.mul_zero, Nat.zero_add]
  have hY' : ∀ p : Fin 128, ∀ k < 8, ∀ n : Fin 136, n.val + k = p.val + 8 →
      inRows v z (zeroRows C.Y) (ix4 b n j d) = past (fun s => ext r s * g s) p.val k := fun p k hk n hn => by
    rw [hY n, past_ext 0 p.val k (by omega) n.val hn, Nat.mul_zero, Nat.zero_add]
  have hv' : ∀ p : Fin 128, v (ix3 b p j) = ext r p.val := fun p => by rw [hv p, Nat.mul_zero, Nat.zero_add]
  have h := run_spec r hr g 0 b j d (rest (inMask v (zeroMask C.U))) (firstScale v (inMask v (zeroMask C.U)))
    (firstTile v (inMask v (zeroMask C.U)) (inRows v z (zeroRows C.Y))) (k0_pay40 (F := Ideal))
    (fun p => rest_at _ b p j (ext r) _ ((inMask_new v _ b p j).trans (hv p)))
    (fun p => by
      rw [firstTile_at v _ _ b p j d (ext r) g (hv' p) (hU' p) (hY' p), Nat.mul_zero, Nat.zero_add])
    (pay40_at b j d)
  refine ⟨h.1, ?_, ?_, ?_⟩
  · intro n hn
    show keepRows (inRows v z (zeroRows C.Y)) (ix4 b n j d) = _
    rw [keepRows_at _ b n hn j d, hY, kept]
  · intro n hn
    show keepMask (inMask v (zeroMask C.U)) (ix4 b n j 0) = _
    rw [keepMask_at _ b n hn j, hU, kept]
  · show k0_pay59 (firstRun v z C).1 (ix3 b j d) = _
    rw [pay59_at]
    exact h.2

/-- A LATER TILE: from what the tile before carried on, it writes the memory after each of its steps and carries on what the next needs. -/
theorem later_step (r : ℕ → ℝ) (hr : ∀ s, r s ≤ 2) (g : ℕ → EReal) (q : ℕ) (hq : 1 ≤ q) (b : Fin 4) (j : Fin 8) (d : Fin 256)
    (v : Vec Ideal S4x128x8 .f32) (z : Vec Ideal S4x128x8x256 .f32) (C : Carry Ideal) (X : Vec Ideal S4x128x8x256 .f32)
    (hv : ∀ p : Fin 128, v (ix3 b p j) = ext r (128 * q + p.val)) (hz : ∀ p : Fin 128, z (ix4 b p j d) = g (128 * q + p.val))
    (hC : Holds r g q b j d C) :
    Writes r g q b j d (laterRun v z C X).2 ∧ Holds r g (q + 1) b j d (laterCarry v z C X) := by
  obtain ⟨hY, hU⟩ := rows_spec r g q b j d v z C.Y C.U hv hz hC.Y hC.U
  have hU' : ∀ p : Fin 128, ∀ k < 8, ∀ n : Fin 136, n.val + k = p.val + 8 →
      inMask v C.U (ix4 b n j 0) = past (ext r) (128 * q + p.val) k := fun p k hk n hn => by
    rw [hU n, past_ext q p.val k (by omega) n.val hn]
  have hY' : ∀ p : Fin 128, ∀ k < 8, ∀ n : Fin 136, n.val + k = p.val + 8 →
      inRows v z C.Y (ix4 b n j d) = past (fun s => ext r s * g s) (128 * q + p.val) k := fun p k hk n hn => by
    rw [hY n, past_ext q p.val k (by omega) n.val hn]
  have h := run_spec r hr g q b j d (rest (inMask v C.U)) (k0_pay47 v (inMask v C.U))
    (chunksAt (inRows v z C.Y) (k0_pay47 v (inMask v C.U)) X k0_t1_loop.trips) C.M
    (fun p => rest_at _ b p j (ext r) _ ((inMask_new v _ b p j).trans (hv p)))
    (fun p => by
      rw [chunks_at]
      exact laterTile_at _ _ b p j d (ext r) g _ (by omega)
        (laterScale_at v _ b p j _ (by omega) r (hv p) (hU' p)) (hY' p))
    hC.M
  refine ⟨h.1, ?_, ?_, ?_⟩
  · intro n hn
    show keepRows (inRows v z C.Y) (ix4 b n j d) = _
    rw [keepRows_at _ b n hn j d, hY, kept]
  · intro n hn
    show keepMask (inMask v C.U) (ix4 b n j 0) = _
    rw [keepMask_at _ b n hn j, hU, kept]
  · show k0_pay59 (laterRun v z C X).1 (ix3 b j d) = _
    rw [pay59_at]
    exact h.2

end Cert.Stat

end

end
-- ==== Proof.Arrays.lean ====
module

public import proofs.«01_k».proof.Proof.Launch
public import proofs.«01_k».proof.Proof.Steps
public import Idealize.ShloMosaic.Lib.Pipeline.ValueKit

@[expose] public section

/-! The kernel's result arrays: what its grid of tiles leaves in them. -/

set_option maxRecDepth 16384
set_option maxHeartbeats 1000000

noncomputable section

namespace Cert.Stat

open Cert.KernelIdeal Cert.KernelIdeal.Gen
open Idealize.ShloMosaic Idealize.ShloMosaic.TcCoe Idealize.SL.Sem Cert.Spec
open Idealize.ShloMosaic.Pipeline (Dat)

variable (m : (ℓ : Loc nD τ sig) → Buf (Elt Ideal) ℓ) (ρ : Dev nD → PrngReg)

/-- The grid has two rows of sixteen points, and every window's block moves with both. -/
theorem idx : ∀ t : Fin cfg0.N, win0_0.index t = ![t.val / 16, t.val % 16, 0, 0] ∧ win0_1.index t = ![t.val / 16, t.val % 16, 0]
    ∧ win0_2.index t = ![t.val / 16, t.val % 16, 0, 0] :=
  (by decide +kernel : ∀ t : Fin grid0.N, _)

/-- The grid's points are thirty-two. -/
theorem points : cfg0.N = 32 := by decide +kernel

/-- The mask of the whole array. -/
abbrev maskArr (c : Dev nD) : MaskIdx → EReal := m ((c : Thread nD τ).loc main_arg1)
/-- The values of the whole array. -/
abbrev valArr (c : Dev nD) : ValIdx → EReal := m ((c : Thread nD τ).loc main_arg0)

/-- A mask block, element by element. -/
theorem maskBlock_at (c : Dev nD) (t : Fin cfg0.N) (b : Fin 4) (p : Fin 128) (j : Fin 8) (b' : Fin 8) (s : Fin 2048)
    (hb : b'.val = 4 * (t.val / 16) + b.val) (hs : s.val = 128 * (t.val % 16) + p.val) :
    iblk m c 1 t (ix3 b p j) = maskArr m c (ix3 b' s j) := by
  blk_ext [iblk, V, idx t]

/-- A values' block, element by element. -/
theorem valBlock_at (c : Dev nD) (t : Fin cfg0.N) (b : Fin 4) (p : Fin 128) (j : Fin 8) (d : Fin 256) (b' : Fin 8) (s : Fin 2048)
    (hb : b'.val = 4 * (t.val / 16) + b.val) (hs : s.val = 128 * (t.val % 16) + p.val) :
    iblk m c 0 t (ix4 b p j d) = valArr m c (ix4 b' s j d) := by
  blk_ext [iblk, V, idx t]

/-- THE TILES of a grid row: each writes the memory after each of its steps, and carries on what the next needs. -/
theorem tiles (c : Dev nD) (hV : Good (maskArr m c)) (i : Fin 2) (b : Fin 4) (j : Fin 8) (d : Fin 256) (b' : Fin 8)
    (hb : b'.val = 4 * i.val + b.val) : ∀ q (hq : q < 16) (t : Fin cfg0.N), t.val = 16 * i.val + q →
      Writes (maskOf (maskArr m c) b' j) (seriesOf (valArr m c) b' j d) q b j d (tileAt m c t)
        ∧ Holds (maskOf (maskArr m c) b' j) (seriesOf (valArr m c) b' j d) (q + 1) b j d (carryAt m c (t.val + 1)) := by
  have hv : ∀ q (hq : q < 16) (t : Fin cfg0.N), t.val = 16 * i.val + q → ∀ p : Fin 128,
      (iblk m c 1 t : Vec Ideal S4x128x8 .f32) (ix3 b p j) = ext (maskOf (maskArr m c) b' j) (128 * q + p.val) := fun q hq t ht p => by
    rw [maskBlock_at m c t b p j b' ⟨128 * q + p.val, by omega⟩ (by omega) (by simp only; omega)]
    exact (ext_maskOf hV b' j _).symm
  have hz : ∀ q (hq : q < 16) (t : Fin cfg0.N), t.val = 16 * i.val + q → ∀ p : Fin 128,
      (iblk m c 0 t : Vec Ideal S4x128x8x256 .f32) (ix4 b p j d) = seriesOf (valArr m c) b' j d (128 * q + p.val) := fun q hq t ht p => by
    rw [valBlock_at m c t b p j d b' ⟨128 * q + p.val, by omega⟩ (by omega) (by simp only; omega)]
    exact (seriesOf_at _ b' j d _).symm
  intro q
  induction q with
  | zero =>
    intro hq t ht
    have h0 : t.val % 16 = 0 := by omega
    have h := first_step _ (maskOf_le hV b' j) (seriesOf (valArr m c) b' j d) b j d (iblk m c 1 t) (iblk m c 0 t) (carryAt m c t.val)
      (hv 0 hq t ht) (hz 0 hq t ht)
    rw [carryAt_succ]
    unfold tileAt tileOf carryOf
    rw [if_pos h0, if_pos h0]
    exact h
  | succ q ih =>
    intro hq t ht
    have h0 : ¬ t.val % 16 = 0 := by omega
    have hlt : 16 * i.val + q < cfg0.N := by rw [points]; omega
    have hp := (ih (by omega) ⟨16 * i.val + q, hlt⟩ rfl).2
    have hC : Holds (maskOf (maskArr m c) b' j) (seriesOf (valArr m c) b' j d) (q + 1) b j d (carryAt m c t.val) := by
      rw [ht]
      exact hp
    have h := later_step _ (maskOf_le hV b' j) (seriesOf (valArr m c) b' j d) (q + 1) (by omega) b j d (iblk m c 1 t) (iblk m c 0 t)
      (carryAt m c t.val) blankTile (hv (q + 1) hq t ht) (hz (q + 1) hq t ht) hC
    rw [carryAt_succ]
    unfold tileAt tileOf carryOf
    rw [if_neg h0, if_neg h0]
    exact h

/-- An output block's element sits in its row of the grid's batch rows and its tile of the sequence. -/
theorem out_emb (t : Fin cfg0.N) (b : Fin 4) (p : Fin 128) (j : Fin 8) (d : Fin 256) (b' : Fin 8) (s : Fin 2048)
    (hb : b'.val = 4 * (t.val / 16) + b.val) (hs : s.val = 128 * (t.val % 16) + p.val) :
    ((win0_2.blk t).view.emb (ix4 b p j d) : ValIdx) = ix4 b' s j d := by
  funext a
  refine Fin.ext ?_
  fin_cases a
  all_goals blk_simp [idx t]
  all_goals simp
  all_goals omega

/-- THE FIRST RESULT after a run: the memory after every step. -/
theorem history_arr (c : Dev nD) (hV : Good (maskArr m c)) :
    (dats m 0 c).arrAt 2 (cfgs 0).N = history (maskArr m c) (valArr m c) := by
  refine (dats m 0 c).arrAt_eq_of_covers 2 _ (by decide +kernel) fun t _ y => ?_
  blk_simp
  rw [after2]
  obtain ⟨b, p, j, d, rfl⟩ : ∃ (b : Fin 4) (p : Fin 128) (j : Fin 8) (d : Fin 256), y = ix4 b p j d := ⟨y 0, y 1, y 2, y 3, eq_ix4 y⟩
  have ht : t.val < 32 := lt_of_lt_of_eq t.isLt points
  have hb : 4 * (t.val / 16) + b.val < 8 := by omega
  have hs : 128 * (t.val % 16) + p.val < 2048 := by omega
  have h := (tiles m c hV ⟨t.val / 16, by omega⟩ b j d ⟨4 * (t.val / 16) + b.val, hb⟩ rfl (t.val % 16) (by omega) t (by simp only; omega)).1 p
  have e := out_emb t b p j d ⟨4 * (t.val / 16) + b.val, hb⟩ ⟨128 * (t.val % 16) + p.val, hs⟩ rfl rfl
  refine h.trans ?_
  refine Eq.trans ?_ (congrArg (history (maskArr m c) (valArr m c)) e.symm)
  rfl

/-- THE SECOND RESULT after a run: the memory after the last step. -/
theorem last_arr (c : Dev nD) (hV : Good (maskArr m c)) :
    Pipeline.afterTail₀ cfgs (dats m) 0 (V0 m) [hostOps1] c main_v2 = last (maskArr m c) (valArr m c) := by
  unfold Pipeline.afterTail₀
  simp only [List.flatten_cons, List.flatten_nil, List.append_nil]
  after_results
  have e : Pipeline.withArrays (cfgs 0).spec c (V0 m c) (fun w => (dats m 0 c).arrAt w (cfgs 0).N) (Proc.tc.devRef main_v0)
      = history (maskArr m c) (valArr m c) :=
    (Pipeline.withArrays_arr (cfgs 0).spec (by decide) c (V0 m c) (fun w => (dats m 0 c).arrAt w (cfgs 0).N) 2).trans (history_arr m c hV)
  rw [e]
  generalize hG : history (maskArr m c) (valArr m c) = G
  funext i
  obtain ⟨b, j, d, rfl⟩ : ∃ (b : Fin 8) (j : Fin 8) (d : Fin 256), i = ix3 b j d := ⟨i 0, i 1, i 2, eq_ix3 i⟩
  show shapeCast S8x8x256 (extractStridedSlice S8x1x8x256 ![0, 2047, 0, 0] (G : Vec Ideal S8x2048x8x256 .f32)
    slices_S8x2048x8x256_S8x1x8x256_0_2047_0_0) shapeCasts_S8x1x8x256_S8x8x256 (ix3 b j d) = _
  pointwise []
  rw [← hG]
  rfl

/-- THE KERNEL'S RUN: both results, and the arguments unchanged. -/
theorem kernel_run (hV : ∀ c : Dev nD, Good (maskArr m c)) :
    θ_run defs (onTc (τ := τ) (main (F := Ideal))) ⟨m, fun _ => 0, ρ⟩ (fun r => ∀ c : Dev nD,
      r.2.mem ((c.tc : Thread nD τ).loc main_v0) = history (maskArr m c) (valArr m c)
      ∧ r.2.mem ((c.tc : Thread nD τ).loc main_v2) = last (maskArr m c) (valArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (history_arr m c (hV c)),
      ((h.1 c).2 main_v2 (by decide)).trans (last_arr m c (hV c)),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c)))⟩)
    (run_main m ρ)

end Cert.Stat

end

end
-- ==== Proof.RefStages.lean ====
module

public import proofs.«01_k».proof.Proof.Gen.ReferenceIdeal.Run
public import proofs.«01_k».proof.Proof.Result
public import Idealize.ShloMosaic.Lib.Pointwise
public import Idealize.ShloMosaic.Lib.StableHlo.ReadAt
public import Idealize.ShloMosaic.Lib.IdealHost

@[expose] public section

/-! The reference's two sums over the eight weights, one weight at a time: the weighted sum of the values and the sum of the weights' sizes. -/

set_option maxRecDepth 16384
set_option maxHeartbeats 2000000

noncomputable section

namespace Cert.RefVal

open Cert.ReferenceIdeal Cert.ReferenceIdeal.Gen Cert.ReferenceIdeal.Value
open Idealize.ShloMosaic Idealize.ShloMosaic.TcCoe Cert.Spec
open Idealize.ShloMosaic.StableHlo

/-- The contents of the reference's buffers. -/
abbrev Bufs := Valuation τ sig (Elt Ideal)

/-- The weighted sum of the values after its first `n` weights. -/
def numer (f z : ℕ → EReal) (t : ℕ) : ℕ → EReal
  | 0 => 0
  | n + 1 => numer f z t n + wn t n * past f t n * past z t n

/-- The sum of the weights' sizes after its first `n` weights. -/
def denom (f : ℕ → EReal) (t : ℕ) : ℕ → EReal
  | 0 => 0
  | n + 1 => denom f t n + max (past f t n * wn t n) (-(past f t n * wn t n))

/-- The integer zero is the number zero. -/
theorem sitofp_zero : FloatOps.sitofp (F := Ideal) FTy.f32 0#32 = (0 : EReal) := by
  show ((((0#32 : BitVec 32).toInt : ℝ)) : EReal) = 0
  rw [show (0#32 : BitVec 32).toInt = 0 from by decide]
  simp

/-- The size of a number. -/
theorem absf_eq (x : EReal) : FloatOps.absf (F := Ideal) (φ := FTy.f32) x = max x (-x) := rfl

/-- The mask `k` steps back. -/
theorem past_mask {V : MaskIdx → EReal} (hV : Good V) (b : Fin 8) (t : Fin 2048) (j : Fin 8) (k : ℕ) (h : k ≤ t.val) :
    past (ext (maskOf V b j)) t.val k = V (ix3 b ⟨t.val - k, by omega⟩ j) := by
  unfold past
  rw [if_pos h]
  exact ext_maskOf hV b j ⟨t.val - k, by omega⟩

/-- The value `k` steps back. -/
theorem past_series (Z : ValIdx → EReal) (b : Fin 8) (t : Fin 2048) (j : Fin 8) (d : Fin 256) (k : ℕ) (h : k ≤ t.val) :
    past (seriesOf Z b j d) t.val k = Z (ix4 b ⟨t.val - k, by omega⟩ j d) := by
  unfold past
  rw [if_pos h]
  exact seriesOf_at Z b j d ⟨t.val - k, by omega⟩

/-- Before the first step there is nothing. -/
theorem past_none (f : ℕ → EReal) (t k : ℕ) (h : ¬ k ≤ t) : past f t k = 0 := if_neg h

/-- The mask `n` steps back as the program reads it: from the array with `n` steps of nothing put before it. -/
def maskBack (v : MaskIdx → EReal) (n : ℕ) (b : Fin 8) (t : Fin 2048) (j : Fin 8) : EReal :=
  if h : n ≤ t.val ∧ t.val - n < 2048 then v (ix3 b ⟨t.val - n, h.2⟩ j) else FloatOps.sitofp (F := Ideal) FTy.f32 0#32

/-- The value `n` steps back as the program reads it: from the array with `n` steps of `fill` put before it. -/
def valBack (z : ValIdx → EReal) (fill : BitVec 32) (n : ℕ) (b : Fin 8) (t : Fin 2048) (j : Fin 8) (d : Fin 256) : EReal :=
  if h : n ≤ t.val ∧ t.val - n < 2048 then z (ix4 b ⟨t.val - n, h.2⟩ j d) else FloatOps.sitofp (F := Ideal) FTy.f32 fill

/-- The program's mask `n` steps back is the mask `n` steps back. -/
theorem maskBack_eq {V : MaskIdx → EReal} (hV : Good V) (n : ℕ) (b : Fin 8) (t : Fin 2048) (j : Fin 8) :
    maskBack V n b t j = past (ext (maskOf V b j)) t.val n := by
  unfold maskBack
  by_cases h : n ≤ t.val
  · rw [dif_pos ⟨h, by omega⟩, past_mask hV b t j n h]
  · rw [dif_neg fun h' => h h'.1, past_none _ _ _ h, sitofp_zero]

/-- The program's value `n` steps back is the value `n` steps back. -/
theorem valBack_eq (Z : ValIdx → EReal) (n : ℕ) (b : Fin 8) (t : Fin 2048) (j : Fin 8) (d : Fin 256) :
    valBack Z 0#32 n b t j d = past (seriesOf Z b j d) t.val n := by
  unfold valBack
  by_cases h : n ≤ t.val
  · rw [dif_pos ⟨h, by omega⟩, past_series Z b t j d n h]
  · rw [dif_neg fun h' => h h'.1, past_none _ _ _ h, sitofp_zero]

/-- The table of weights. -/
abbrev table (X : Bufs) : S2048x8.Idx → EReal := X (Proc.devRef .tc main_v20)

/-- The buffers `X` once the two sums, `num` and `den`, hold `n` weights; `fill` is what the next shift puts before the values. -/
structure Sums (V : MaskIdx → EReal) (Z : ValIdx → EReal) (n : ℕ) (X : Bufs) (num : ValIdx → EReal) (den : MaskIdx → EReal)
    (fill : S_.Idx → BitVec 32) : Prop where
  vals : (X (Proc.devRef .tc main_arg0) : ValIdx → EReal) = Z
  mask : (X (Proc.devRef .tc main_arg1) : MaskIdx → EReal) = V
  wgt : ∀ (t : Fin 2048) (k : Fin 8), table X (ix2 t k) = wn t.val k.val
  fill : fill = fun _ => 0#32
  num : ∀ (b : Fin 8) (t : Fin 2048) (j : Fin 8) (d : Fin 256),
    num (ix4 b t j d) = numer (ext (maskOf V b j)) (seriesOf Z b j d) t.val n
  den : ∀ (b : Fin 8) (t : Fin 2048) (j : Fin 8), den (ix3 b t j) = denom (ext (maskOf V b j)) t.val n

variable {V : MaskIdx → EReal} {Z : ValIdx → EReal} {n : ℕ} {X Y : Bufs} {num num' : ValIdx → EReal} {den den' : MaskIdx → EReal}
  {fill fill' : S_.Idx → BitVec 32}

/-- The next weight's share of the weighted sum. -/
theorem Sums.num_next (hV : Good V) (h : Sums V Z n X num den fill) (k : Fin 8) (hk : k.val = n) (b : Fin 8) (t : Fin 2048) (j : Fin 8)
    (d : Fin 256) :
    num (ix4 b t j d) + table X (ix2 t k) * maskBack (X (Proc.devRef .tc main_arg1)) n b t j
        * valBack (X (Proc.devRef .tc main_arg0)) (fill (Shape.Idx.first h_S_)) n b t j d
      = numer (ext (maskOf V b j)) (seriesOf Z b j d) t.val (n + 1) := by
  rw [h.num, h.wgt, h.vals, h.mask, h.fill, maskBack_eq hV, valBack_eq, hk]
  rfl

/-- The next weight's share of the sizes' sum. -/
theorem Sums.den_next (hV : Good V) (h : Sums V Z n X num den fill) (k : Fin 8) (hk : k.val = n) (b : Fin 8) (t : Fin 2048) (j : Fin 8) :
    den (ix3 b t j) + FloatOps.absf (F := Ideal) (φ := FTy.f32)
        (maskBack (X (Proc.devRef .tc main_arg1)) n b t j * table X (ix2 t k))
      = denom (ext (maskOf V b j)) t.val (n + 1) := by
  rw [h.den, h.wgt, h.mask, maskBack_eq hV, absf_eq, hk]
  rfl

/-- ONE MORE WEIGHT: operations that keep the arguments and the table, and add the next weight's shares to the two sums. -/
theorem Sums.next (hV : Good V) (h : Sums V Z n X num den fill) (k : Fin 8) (hk : k.val = n)
    (hz : Y (Proc.devRef .tc main_arg0) = X (Proc.devRef .tc main_arg0))
    (hm : Y (Proc.devRef .tc main_arg1) = X (Proc.devRef .tc main_arg1))
    (hw : Y (Proc.devRef .tc main_v20) = X (Proc.devRef .tc main_v20)) (hf : fill' = fun _ => 0#32)
    (hn : ∀ (b : Fin 8) (t : Fin 2048) (j : Fin 8) (d : Fin 256), num' (ix4 b t j d)
      = num (ix4 b t j d) + table X (ix2 t k) * maskBack (X (Proc.devRef .tc main_arg1)) n b t j
        * valBack (X (Proc.devRef .tc main_arg0)) (fill (Shape.Idx.first h_S_)) n b t j d)
    (hd : ∀ (b : Fin 8) (t : Fin 2048) (j : Fin 8), den' (ix3 b t j)
      = den (ix3 b t j) + FloatOps.absf (F := Ideal) (φ := FTy.f32)
        (maskBack (X (Proc.devRef .tc main_arg1)) n b t j * table X (ix2 t k))) :
    Sums V Z (n + 1) Y num' den' fill' :=
  ⟨hz.trans h.vals, hm.trans h.mask, fun t k' => by rw [show table Y = table X from hw]; exact h.wgt t k', hf,
    fun b t j d => (hn b t j d).trans (h.num_next hV k hk b t j d), fun b t j => (hd b t j).trans (h.den_next hV k hk b t j)⟩

/-- The mask no step back is the step's own. -/
theorem mask_zero (v : MaskIdx → EReal) (b : Fin 8) (t : Fin 2048) (j : Fin 8) : maskBack v 0 b t j = v (ix3 b t j) :=
  dif_pos ⟨Nat.zero_le _, t.isLt⟩

/-- The value no step back is the step's own. -/
theorem val_zero (z : ValIdx → EReal) (f : BitVec 32) (b : Fin 8) (t : Fin 2048) (j : Fin 8) (d : Fin 256) :
    valBack z f 0 b t j d = z (ix4 b t j d) :=
  dif_pos ⟨Nat.zero_le _, t.isLt⟩

/-- The reference's operations for weight 1 of eight. -/
def grp0 (X : Bufs) : Bufs :=
  after hostOps0_6 (after hostOps0_5 (after hostOps0_4 (after hostOps0_3 X)))

/-- After them the sums hold one weight. -/
theorem st1 (hV : Good V) (h : Sums V Z 0 X (X (Proc.devRef .tc main_v21)) (X (Proc.devRef .tc main_v22))
    (X (Proc.devRef .tc main_c_7))) :
    Sums V Z 1 (grp0 X) (grp0 X (Proc.devRef .tc main_v33)) (grp0 X (Proc.devRef .tc main_v37))
    (grp0 X (Proc.devRef .tc main_c_9)) := by
  refine h.next hV 0 rfl ?_ ?_ ?_ ?_ (fun b t j d => ?_) fun b t j => ?_ <;> unfold grp0 <;> simp only [hostOps0_6, hostOps0_5, hostOps0_4, hostOps0_3]
  · after_results
  · after_results
  · after_results
  · after_results
    rfl
  · after_reads_at
    rw [mask_zero, val_zero]
  · after_reads_at
    rw [mask_zero]

/-- The reference's operations for weight 2 of eight. -/
def grp1 (X : Bufs) : Bufs :=
  after hostOps0_10 (after hostOps0_9 (after hostOps0_8 (after hostOps0_7 X)))

/-- After them the sums hold two weights. -/
theorem st2 (hV : Good V) (h : Sums V Z 1 X (X (Proc.devRef .tc main_v33)) (X (Proc.devRef .tc main_v37))
    (X (Proc.devRef .tc main_c_9))) :
    Sums V Z 2 (grp1 X) (grp1 X (Proc.devRef .tc main_v50)) (grp1 X (Proc.devRef .tc main_v54))
    (grp1 X (Proc.devRef .tc main_c_11)) := by
  refine h.next hV 1 rfl ?_ ?_ ?_ ?_ (fun b t j d => ?_) fun b t j => ?_ <;> unfold grp1 <;> simp only [hostOps0_10, hostOps0_9, hostOps0_8, hostOps0_7]
  · after_results
  · after_results
  · after_results
  · after_results
    rfl
  · after_reads_at
    rfl
  · after_reads_at
    rfl

/-- The reference's operations for weight 3 of eight. -/
def grp2 (X : Bufs) : Bufs :=
  after hostOps0_14 (after hostOps0_13 (after hostOps0_12 (after hostOps0_11 X)))

/-- After them the sums hold three weights. -/
theorem st3 (hV : Good V) (h : Sums V Z 2 X (X (Proc.devRef .tc main_v50)) (X (Proc.devRef .tc main_v54))
    (X (Proc.devRef .tc main_c_11))) :
    Sums V Z 3 (grp2 X) (grp2 X (Proc.devRef .tc main_v67)) (grp2 X (Proc.devRef .tc main_v71))
    (grp2 X (Proc.devRef .tc main_c_13)) := by
  refine h.next hV 2 rfl ?_ ?_ ?_ ?_ (fun b t j d => ?_) fun b t j => ?_ <;> unfold grp2 <;> simp only [hostOps0_14, hostOps0_13, hostOps0_12, hostOps0_11]
  · after_results
  · after_results
  · after_results
  · after_results
    rfl
  · after_reads_at
    rfl
  · after_reads_at
    rfl

/-- The reference's operations for weight 4 of eight. -/
def grp3 (X : Bufs) : Bufs :=
  after hostOps0_18 (after hostOps0_17 (after hostOps0_16 (after hostOps0_15 X)))

/-- After them the sums hold four weights. -/
theorem st4 (hV : Good V) (h : Sums V Z 3 X (X (Proc.devRef .tc main_v67)) (X (Proc.devRef .tc main_v71))
    (X (Proc.devRef .tc main_c_13))) :
    Sums V Z 4 (grp3 X) (grp3 X (Proc.devRef .tc main_v84)) (grp3 X (Proc.devRef .tc main_v88))
    (grp3 X (Proc.devRef .tc main_c_15)) := by
  refine h.next hV 3 rfl ?_ ?_ ?_ ?_ (fun b t j d => ?_) fun b t j => ?_ <;> unfold grp3 <;> simp only [hostOps0_18, hostOps0_17, hostOps0_16, hostOps0_15]
  · after_results
  · after_results
  · after_results
  · after_results
    rfl
  · after_reads_at
    rfl
  · after_reads_at
    rfl

/-- The reference's operations for weight 5 of eight. -/
def grp4 (X : Bufs) : Bufs :=
  after hostOps0_22 (after hostOps0_21 (after hostOps0_20 (after hostOps0_19 X)))

/-- After them the sums hold five weights. -/
theorem st5 (hV : Good V) (h : Sums V Z 4 X (X (Proc.devRef .tc main_v84)) (X (Proc.devRef .tc main_v88))
    (X (Proc.devRef .tc main_c_15))) :
    Sums V Z 5 (grp4 X) (grp4 X (Proc.devRef .tc main_v101)) (grp4 X (Proc.devRef .tc main_v105))
    (grp4 X (Proc.devRef .tc main_c_17)) := by
  refine h.next hV 4 rfl ?_ ?_ ?_ ?_ (fun b t j d => ?_) fun b t j => ?_ <;> unfold grp4 <;> simp only [hostOps0_22, hostOps0_21, hostOps0_20, hostOps0_19]
  · after_results
  · after_results
  · after_results
  · after_results
    rfl
  · after_reads_at
    rfl
  · after_reads_at
    rfl

/-- The reference's operations for weight 6 of eight. -/
def grp5 (X : Bufs) : Bufs :=
  after hostOps0_26 (after hostOps0_25 (after hostOps0_24 (after hostOps0_23 X)))

/-- After them the sums hold six weights. -/
theorem st6 (hV : Good V) (h : Sums V Z 5 X (X (Proc.devRef .tc main_v101)) (X (Proc.devRef .tc main_v105))
    (X (Proc.devRef .tc main_c_17))) :
    Sums V Z 6 (grp5 X) (grp5 X (Proc.devRef .tc main_v118)) (grp5 X (Proc.devRef .tc main_v122))
    (grp5 X (Proc.devRef .tc main_c_19)) := by
  refine h.next hV 5 rfl ?_ ?_ ?_ ?_ (fun b t j d => ?_) fun b t j => ?_ <;> unfold grp5 <;> simp only [hostOps0_26, hostOps0_25, hostOps0_24, hostOps0_23]
  · after_results
  · after_results
  · after_results
  · after_results
    rfl
  · after_reads_at
    rfl
  · after_reads_at
    rfl

/-- The reference's operations for weight 7 of eight. -/
def grp6 (X : Bufs) : Bufs :=
  after hostOps0_30 (after hostOps0_29 (after hostOps0_28 (after hostOps0_27 X)))

/-- After them the sums hold seven weights. -/
theorem st7 (hV : Good V) (h : Sums V Z 6 X (X (Proc.devRef .tc main_v118)) (X (Proc.devRef .tc main_v122))
    (X (Proc.devRef .tc main_c_19))) :
    Sums V Z 7 (grp6 X) (grp6 X (Proc.devRef .tc main_v135)) (grp6 X (Proc.devRef .tc main_v139))
    (grp6 X (Proc.devRef .tc main_c_21)) := by
  refine h.next hV 6 rfl ?_ ?_ ?_ ?_ (fun b t j d => ?_) fun b t j => ?_ <;> unfold grp6 <;> simp only [hostOps0_30, hostOps0_29, hostOps0_28, hostOps0_27]
  · after_results
  · after_results
  · after_results
  · after_results
    rfl
  · after_reads_at
    rfl
  · after_reads_at
    rfl

end Cert.RefVal

end

end
-- ==== Proof.RefWeights.lean ====
module

public import proofs.«01_k».proof.Proof.RefStages

@[expose] public section

/-! The reference's weights: the table its first operations compute holds, at a step and a lag, the normalized weight; the two sums then start at nothing. -/

set_option maxRecDepth 16384
set_option maxHeartbeats 2000000

noncomputable section

namespace Cert.RefVal

open Cert.ReferenceIdeal Cert.ReferenceIdeal.Gen Cert.ReferenceIdeal.Value
open Idealize.ShloMosaic Idealize.ShloMosaic.TcCoe Cert.Spec
open Idealize.ShloMosaic.StableHlo

/-- The operations that compute the table of weights. -/
def grpW (X : Bufs) : Bufs := after hostOps0_2 (after hostOps0_1 (after hostOps0 X))

/-- The table's integer at step `t` and lag `k`. -/
def word (t k : ℕ) : BitVec 32 :=
  Scalar.select (IntOp.cmpi CmpIPredicate.slt (BitVec.ofNat 32 k) (IntOp.minsi (8#32) (IntOp.addi (BitVec.ofNat 32 t) 1#32)))
    (IntOp.subi (IntOp.subi (IntOp.minsi (8#32) (IntOp.addi (BitVec.ofNat 32 t) 1#32)) 1#32) (IntOp.muli (2#32) (BitVec.ofNat 32 k)))
    0#32

/-- That integer: the window's length less one and twice the lag, inside the window. -/
theorem word_int : ∀ (t : Fin 2048) (k : Fin 8), (word t.val k.val).toInt
    = if k.val ≤ t.val then (min (t.val + 1) 8 : ℕ) - (1 + 2 * k.val : ℤ) else 0 := by
  decide +kernel

/-- As a number it is the weight before it is normalized. -/
theorem word_real (t : Fin 2048) (k : Fin 8) :
    FloatOps.sitofp (F := Ideal) FTy.f32 (word t.val k.val) = ((wraw t.val k.val : ℝ) : EReal) := by
  show ((((word t.val k.val).toInt : ℝ)) : EReal) = _
  rw [word_int t k]
  unfold wraw
  split_ifs <;> push_cast <;> rfl

/-- The table holds the normalized weights. -/
theorem weights (X : Bufs) (t : Fin 2048) (k : Fin 8) :
    grpW X (Proc.devRef .tc main_v20) (ix2 t k) = wn t.val k.val := by
  unfold grpW
  simp only [hostOps0, hostOps0_1, hostOps0_2]
  after_reads_at
  show Ideal.div (FloatOps.sitofp (F := Ideal) FTy.f32 (word t.val k.val))
    (max (∑ x : Fin 8, FloatOps.absf (F := Ideal) (φ := FTy.f32) (FloatOps.sitofp (F := Ideal) FTy.f32 (word t.val x.val))) (Ideal.ofBits FTy.f32 897988541#32)) = _
  simp only [word_real]
  rw [show Ideal.ofBits FTy.f32 897988541#32 = ((eps : ℝ) : EReal) from ofBits_eps]
  unfold wn wnorm
  rw [coe_max, ← sum8_coe, Fin.sum_univ_eight]
  have ha : ∀ x : ℝ, FloatOps.absf (F := Ideal) (φ := FTy.f32) ((x : ℝ) : EReal) = ((|x| : ℝ) : EReal) := fun x => by
    show max ((x : ℝ) : EReal) (-((x : ℝ) : EReal)) = _
    rw [abs_eq_max_neg, coe_max, EReal.coe_neg]
  simp only [ha]
  rfl

/-- After them the two sums hold no weight yet. -/
theorem st0 (X : Bufs) : Sums (X (Proc.devRef .tc main_arg1)) (X (Proc.devRef .tc main_arg0)) 0 (grpW X) (grpW X (Proc.devRef .tc main_v21))
    (grpW X (Proc.devRef .tc main_v22)) (grpW X (Proc.devRef .tc main_c_7)) := by
  refine ⟨?_, ?_, fun t k => weights X t k, ?_, fun b t j d => ?_, fun b t j => ?_⟩ <;> unfold grpW <;>
    simp only [hostOps0, hostOps0_1, hostOps0_2]
  · after_results
  · after_results
  · after_results
    rfl
  · after_reads_at
    rfl
  · after_reads_at
    rfl

end Cert.RefVal

end

end
-- ==== Proof.RefEntry.lean ====
module

public import proofs.«01_k».proof.Proof.RefWeights

@[expose] public section

/-! What the reference's loop starts from: the factor and the input of every step, and empty results. -/

set_option maxRecDepth 16384
set_option maxHeartbeats 2000000

noncomputable section

namespace Cert.RefVal

open Cert.ReferenceIdeal Cert.ReferenceIdeal.Gen Cert.ReferenceIdeal.Value
open Idealize.ShloMosaic Idealize.ShloMosaic.TcCoe Cert.Spec
open Idealize.ShloMosaic.StableHlo

/-- The last weight joins the sums, and the sums become the loop's operands. -/
def grp7 (X : Bufs) : Bufs :=
  after hostOps0_34 (after hostOps0_33 (after hostOps0_32 (after hostOps0_31 X)))

/-- The buffers a loop of `k` steps leaves: the factors and inputs of all steps, the step's number, the memory, and its history so far. -/
structure Loop (V : MaskIdx → EReal) (Z : ValIdx → EReal) (k : ℕ) (X : Bufs) : Prop where
  factor : ∀ (t : Fin 2048) (b j : Fin 8), X (Proc.devRef .tc main_v175_0) (ix3 t b j) = fac (ext (maskOf V b j)) t.val
  input : ∀ (t : Fin 2048) (b j : Fin 8) (d : Fin 256),
    X (Proc.devRef .tc main_v175_1) (ix4 t b j d) = inp (ext (maskOf V b j)) (seriesOf Z b j d) t.val
  step : (X (Proc.devRef .tc main_v175_2) : S_.Idx → BitVec 32) = fun _ => BitVec.ofNat 32 k
  now : ∀ (b j : Fin 8) (d : Fin 256), X (Proc.devRef .tc main_v175_3) (ix3 b j d) = memOf V Z b j d k
  before : ∀ (t : Fin 2048) (b j : Fin 8) (d : Fin 256), t.val < k →
    X (Proc.devRef .tc main_v175_4) (ix4 t b j d) = memOf V Z b j d (t.val + 1)

/-- The sum over eight weights, left to right from nothing. -/
theorem numer_eight (f z : ℕ → EReal) (t : ℕ) : numer f z t 8 = sum8 fun k => wn t k * past f t k * past z t k := by
  simp only [numer, sum8, zero_add]

/-- The sizes' sum over eight weights, left to right from nothing. -/
theorem denom_eight (f : ℕ → EReal) (t : ℕ) : denom f t 8 = sum8 fun k => max (past f t k * wn t k) (-(past f t k * wn t k)) := by
  simp only [denom, sum8, zero_add]

/-- The loop starts from the factors, the inputs, and nothing. -/
theorem loop0 {V : MaskIdx → EReal} {Z : ValIdx → EReal} {X : Bufs} (hV : Good V) (h : Sums V Z 7 X (X (Proc.devRef .tc main_v135)) (X (Proc.devRef .tc main_v139))
    (X (Proc.devRef .tc main_c_21))) : Loop V Z 0 (grp7 X) := by
  refine ⟨fun t b j => ?_, fun t b j d => ?_, ?_, fun b j d => ?_, fun t b j d ht => absurd ht (Nat.not_lt_zero _)⟩
  · unfold grp7
    simp only [hostOps0_34, hostOps0_33, hostOps0_32, hostOps0_31]
    after_reads_at
    simp only [id_eq]
    pointwise []
    rw [show Ideal.ofBits FTy.f32 1056964608#32 = ((1 / 2 : ℝ) : EReal) from ofBits_half, h.mask]
    unfold fac
    rw [ext_maskOf hV b j t]
  · unfold grp7
    simp only [hostOps0_34, hostOps0_33, hostOps0_32, hostOps0_31]
    after_reads_at
    simp only [id_eq]
    pointwise []
    rw [show Ideal.ofBits FTy.f32 1056964608#32 = ((1 / 2 : ℝ) : EReal) from ofBits_half,
      show Ideal.ofBits FTy.f32 897988541#32 = ((eps : ℝ) : EReal) from ofBits_eps, ← ref_inp (maskOf V b j) (maskOf_nonneg hV b j) (seriesOf Z b j d) t.val]
    have hn := h.num_next hV 7 rfl b t j d
    have hd := h.den_next hV 7 rfl b t j
    have hv := (congrFun h.mask (ix3 b t j)).trans (ext_maskOf hV b j t).symm
    rw [numer_eight] at hn
    rw [denom_eight] at hd
    simp only [maskBack, valBack] at hn hd
    rw [← hn, ← hd]
    exact congrArg (fun v : EReal => ((1 / 2 : ℝ) : EReal) * v * _) hv
  · unfold grp7
    simp only [hostOps0_34, hostOps0_33, hostOps0_32, hostOps0_31]
    after_results
    rfl
  · unfold grp7
    simp only [hostOps0_34, hostOps0_33, hostOps0_32, hostOps0_31]
    after_reads_at
    simp only [id_eq]
    pointwise []
    rfl

/-- The loop's first buffers are those after all the operations before it. -/
theorem entry (m : (ℓ : Loc nD τ sig) → Buf (Elt Ideal) ℓ) (c : Dev nD)
    (hV : Good (m ((c.tc : Thread nD τ).loc main_arg1) : MaskIdx → EReal)) :
    Loop (m ((c.tc : Thread nD τ).loc main_arg1)) (m ((c.tc : Thread nD τ).loc main_arg0)) 0 (entryContents preI m c) := by
  have h := loop0 hV (st7 hV (st6 hV (st5 hV (st4 hV (st3 hV (st2 hV (st1 hV (st0 fun b => m (c, b)))))))))
  have e : entryContents preI m c
      = grp7 (grp6 (grp5 (grp4 (grp3 (grp2 (grp1 (grp0 (grpW fun b => m (c, b))))))))) := by
    simp only [entryContents, afterL_cons, afterL_nil]
    rfl
  rw [e]
  exact h

end Cert.RefVal

end

end
-- ==== Proof.RefLoop.lean ====
module

public import proofs.«01_k».proof.Proof.RefEntry
public import Idealize.ShloMosaic.Lib.DynamicIndex
public import Idealize.ShloMosaic.Lib.Pipeline.Value

@[expose] public section

/-! The reference's loop: each step makes the memory the recurrence's next, and files it under the step's number. -/

set_option maxRecDepth 16384
set_option maxHeartbeats 2000000

noncomputable section

namespace Cert.RefVal

open Cert.ReferenceIdeal Cert.ReferenceIdeal.Gen Cert.ReferenceIdeal.Value
open Idealize.ShloMosaic Idealize.SL.Sem Idealize.ShloMosaic.TcCoe Cert.Spec
open Idealize.ShloMosaic.StableHlo

variable {V : MaskIdx → EReal} {Z : ValIdx → EReal} {X : Bufs} {k : ℕ}

/-- One step's block of the factors. -/
theorem fits_factor (hk : k < 2048) : S2048x8x8.Slices (![k, 0, 0] : Fin 3 → ℕ) S1x8x8 :=
  ⟨rfl, fun a => by fin_cases a <;> simp [S2048x8x8, S1x8x8]; omega⟩

/-- One step's block of the inputs, or of the history. -/
theorem fits_input (hk : k < 2048) : S2048x8x8x256.Slices (![k, 0, 0, 0] : Fin 4 → ℕ) S1x8x8x256 :=
  ⟨rfl, fun a => by fin_cases a <;> simp [S2048x8x8x256, S1x8x8x256]; omega⟩

/-- The step's number as a word. -/
theorem word_val (hk : k < 2048) : (BitVec.ofNat 32 k).toInt = (k : ℤ) := toInt_ofNat_of_lt (by omega)

/-- THE STEP: the memory becomes the recurrence's next. -/
theorem res_at (h : Loop V Z k X) (hk : k < 2048) (b j : Fin 8) (d : Fin 256) :
    res_main_while0b_v184 X (ix3 b j d) = memOf V Z b j d (k + 1) := by
  unfold res_main_while0b_v184
  rw [Host.dynamicSlice_eq_extractStridedSlice S1x8x8 _ _ ![k, 0, 0] _ (fits_factor hk) (fun a => by
      rw [h.step]; fin_cases a <;> first | exact word_val hk | rfl),
    Host.dynamicSlice_eq_extractStridedSlice S1x8x8x256 _ _ ![k, 0, 0, 0] _ (fits_input hk) (fun a => by
      rw [h.step]; fin_cases a <;> first | exact word_val hk | rfl)]
  pointwise []
  rw [h.factor ⟨k, hk⟩ b j, h.input ⟨k, hk⟩ b j d, h.now b j d]
  rfl

/-- One trip of the loop. -/
theorem step (h : Loop V Z k X) (hk : k < 2048) : Loop V Z (k + 1) (STEP X) := by
  refine ⟨fun t b j => ?_, fun t b j d => ?_, ?_, fun b j d => ?_, fun t b j d ht => ?_⟩
  · rw [STEP_main_v175_0]; exact h.factor t b j
  · rw [STEP_main_v175_1]; exact h.input t b j d
  · rw [STEP_main_v175_2]
    unfold step_main_v175_2
    rw [h.step]
    funext i
    show BitVec.ofNat 32 k + 1#32 = _
    rw [BitVec.ofNat_add]
  · rw [STEP_main_v175_3]
    exact res_at h hk b j d
  · rw [STEP_main_v175_4]
    unfold step_main_v175_4
    rw [Host.dynamicUpdateSlice_eq_updateSlice _ _ _ _ ![k, 0, 0, 0] (fun a => by
      rw [h.step]; fin_cases a <;> first | (show (min (max (BitVec.ofNat 32 k).toInt 0) ((2048 - 1 : ℕ) : ℤ)).toNat = k; rw [word_val hk]; omega) | rfl) (fits_input hk)]
    simp only [id_eq]
    pointwise []
    by_cases htk : t.val = k
    · rw [dif_pos (fun a => by
        fin_cases a
        · exact ⟨htk.ge, htk.trans_lt (Nat.lt_succ_self k)⟩
        · exact ⟨Nat.zero_le _, by show b.val < 0 + 8; omega⟩
        · exact ⟨Nat.zero_le _, by show j.val < 0 + 8; omega⟩
        · exact ⟨Nat.zero_le _, by show d.val < 0 + 256; omega⟩)]
      rw [htk]
      exact res_at h hk b j d
    · rw [dif_neg (fun hin => by
        have h0 : k ≤ t.val := (hin 0).1
        omega)]
      exact h.before t b j d (by omega)

/-- After any number of trips up to the last. -/
theorem loop (h : Loop V Z 0 X) : ∀ n, n ≤ 2048 → Loop V Z n (STEP^[n] X)
  | 0, _ => h
  | n + 1, hn => by
    rw [Function.iterate_succ_apply']
    exact step (loop h n (by omega)) (by omega)

/-- The first result is the memory's history. -/
theorem out_history (h : Loop V Z 2048 X) : (out_main_v176 X : ValIdx → EReal) = history V Z := by
  funext i
  obtain ⟨b, t, j, d, rfl⟩ : ∃ (b : Fin 8) (t : Fin 2048) (j : Fin 8) (d : Fin 256), i = ix4 b t j d :=
    ⟨i 0, i 1, i 2, i 3, by funext a; fin_cases a <;> rfl⟩
  show (out_main_v176 X : ValIdx → EReal) (ix4 b t j d) = memOf V Z b j d (t.val + 1)
  rw [← h.before t b j d t.isLt]
  unfold out_main_v176
  pointwise []

/-- The second result is the memory at the end. -/
theorem out_last (h : Loop V Z 2048 X) : (out_main_v178 X : S8x8x256.Idx → EReal) = last V Z := by
  funext i
  obtain ⟨b, j, d, rfl⟩ : ∃ (b : Fin 8) (j : Fin 8) (d : Fin 256), i = ix3 b j d :=
    ⟨i 0, i 1, i 2, by funext a; fin_cases a <;> rfl⟩
  show (out_main_v178 X : S8x8x256.Idx → EReal) (ix3 b j d) = memOf V Z b j d (2047 + 1)
  rw [← h.before ⟨2047, by omega⟩ b j d (by simp)]
  unfold out_main_v178
  pointwise []

/-- THE REFERENCE'S RUN: on good masks its results are the memory's history and the memory at the end. -/
theorem reference_run (m : (ℓ : Loc nD τ sig) → Buf (Elt Ideal) ℓ) (ρ : Dev nD → PrngReg)
    (hV : ∀ c : Dev nD, Good (m ((c.tc : Thread nD τ).loc main_arg1) : MaskIdx → EReal)) :
    θ_run (defs (F := Ideal)) (onTc (τ := τ) (main (F := Ideal))) ⟨m, fun _ => 0, ρ⟩ fun r => ∀ c : Dev nD,
      r.2.mem ((c.tc : Thread nD τ).loc main_v176) = history (m ((c.tc : Thread nD τ).loc main_arg1)) (m ((c.tc : Thread nD τ).loc main_arg0))
      ∧ r.2.mem ((c.tc : Thread nD τ).loc main_v178) = last (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
    have hl := loop (entry m c (hV c)) 2048 le_rfl
    exact ⟨(h c).1.trans (out_history hl), (h c).2.1.trans (out_last hl), (h c).2.2.1, (h c).2.2.2⟩) (run m ρ)

end Cert.RefVal

end

end
-- ==== Proof.Values.lean ====
module

public import proofs.«01_k».proof.Defs
public import proofs.«01_k».proof.Proof.Arrays
public import proofs.«01_k».proof.Proof.RefLoop

@[expose] public section

/-! The kernel and the reference compute the same results: both end with the memory's history and the memory at the end. -/

noncomputable section

namespace Cert.Proof

open Idealize.ShloMosaic Idealize.SL.Sem Cert.Spec

/-- A zero fits the mask's array. -/
theorem mask_facts : Cert.Pre_mask_keeps_the_memory.Facts := ⟨by decide⟩

/-- One bit that says a decidable statement is one exactly where it holds. -/
theorem of_bit {p : Prop} [Decidable p] (h : BitVec.ofBool (decide p) = 1#1) : p := by
  by_contra hp
  rw [decide_eq_false hp] at h
  exact absurd h (by decide)

/-- Of two bits whose conjunction is one, both are. -/
theorem bits_and : ∀ a b : BitVec 1, a &&& b = 1#1 → a = 1#1 ∧ b = 1#1 := by decide

/-- THE PRECONDITION as a statement about numbers: every mask is at least zero and at most two. -/
theorem good_of_pre (x : ValIdx → EReal) (v : MaskIdx → EReal)
    (h : @Cert.Pre_mask_keeps_the_memory.fn mask_facts Ideal _ x v = fun _ => 1#1) : Good v := by
  intro i
  have h1 := bits_and _ _ (congrFun h i)
  have hlo : Ideal.ofBits .f32 0x00000000#32 ≤ v i := of_bit h1.1
  have hhi : v i ≤ Ideal.ofBits .f32 0x40000000#32 := of_bit h1.2
  rw [Ideal.ofBits_zero_f32] at hlo
  rw [ofBits_two] at hhi
  exact ⟨hlo, hhi⟩

/-- THE VALUES: from memories that agree on the arguments, with a mask from zero to two, both results of the two programs are equal. -/
theorem algebraic : @Cert.algebraic_KernelIdeal_ReferenceIdeal_pre_mask_keeps_the_memory Cert.KernelIdeal.Gen.facts
    Cert.ReferenceIdeal.Gen.facts mask_facts := by
  intro m g m' g' hP hA
  have hV : ∀ c, Good (Cert.Stat.maskArr m c) := fun c => good_of_pre _ _ (hP c)
  refine ⟨fun c => history (Cert.Stat.maskArr m c) (Cert.Stat.valArr m c), fun c => last (Cert.Stat.maskArr m c) (Cert.Stat.valArr m c),
    Cert.Stat.kernel_run m g hV, ?_⟩
  have hR := Cert.RefVal.reference_run m' g' (fun c => by rw [(hA c).2]; exact hV c)
  refine (θ_run Cert.ReferenceIdeal.defs _ _).mono (fun r h c => ?_) hR
  have hc := h c
  rw [(hA c).1, (hA c).2] at hc
  refine ⟨hc.1, hc.2.1, ?_, ?_⟩
  · rw [(hA c).1]; exact hc.2.2.1
  · rw [(hA c).2]; exact hc.2.2.2

end Cert.Proof

end

end
-- ==== Proof.lean ====
module

public import proofs.«01_k».proof.Defs
public import proofs.«01_k».proof.Proof.Frames
public import proofs.«01_k».proof.Proof.Values

@[expose] public section

/-! The proof of the claim. -/

noncomputable section

namespace Cert.Proof

open Idealize.ShloMosaic Idealize.SL.Sem

/-- The kernel over the extended reals, its mask from zero to two: its arguments and its counters after a run. -/
theorem frame_ki_mask : @Cert.quiescent_KernelIdeal_pre_mask_keeps_the_memory Cert.KernelIdeal.Gen.facts mask_facts :=
  fun m ρ _ => frame_ki m ρ trivial

/-- The reference over the extended reals, its mask from zero to two: its arguments and its counters after a run. -/
theorem frame_ri_mask : @Cert.quiescent_ReferenceIdeal_pre_mask_keeps_the_memory Cert.ReferenceIdeal.Gen.facts mask_facts :=
  fun m ρ _ => frame_ri m ρ trivial

/-- The claim: the frames, the two forms of the kernel one program, and the equal results. -/
theorem claim : Cert.Claim := ⟨Cert.Kernel.Gen.facts, Cert.KernelIdeal.Gen.facts, Cert.ReferenceIdeal.Gen.facts, mask_facts,
  frame_k, frame_ki, frame_ki_mask, frame_ri, frame_ri_mask, trivial, algebraic⟩

end Cert.Proof

end

end
